-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_events [hPre_unit_events : Cert.Pre_unit_events.Facts] (m : (ℓ : Loc Cert.KernelIdeal.nD Cert.KernelIdeal.τ Cert.KernelIdeal.sig) → Buf (Elt Ideal) ℓ) : Prop :=
  ∀ c : Dev Cert.KernelIdeal.nD,
    (Cert.Pre_unit_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_events [hPre_unit_events : Cert.Pre_unit_events.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_unit_events [hKernelIdeal : Cert.KernelIdeal.Facts] [hPre_unit_events : Cert.Pre_unit_events.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_events m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_unit_events [hReferenceIdeal : Cert.ReferenceIdeal.Facts] [hPre_unit_events : Cert.Pre_unit_events.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_events m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_unit_events [hKernelIdeal : Cert.KernelIdeal.Facts] [hReferenceIdeal : Cert.ReferenceIdeal.Facts] [hPre_unit_events : Cert.Pre_unit_events.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_events m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v423) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_unit_events : Cert.Pre_unit_events.Facts),
    quiescent_Kernel (hKernel := hKernel)
    ∧ quiescent_KernelIdeal (hKernelIdeal := hKernelIdeal)
    ∧ quiescent_KernelIdeal_pre_unit_events (hKernelIdeal := hKernelIdeal) (hPre_unit_events := hPre_unit_events)
    ∧ quiescent_ReferenceIdeal (hReferenceIdeal := hReferenceIdeal)
    ∧ quiescent_ReferenceIdeal_pre_unit_events (hReferenceIdeal := hReferenceIdeal) (hPre_unit_events := hPre_unit_events)
    ∧ preserves_Kernel_KernelIdeal
    ∧ algebraic_KernelIdeal_ReferenceIdeal_pre_unit_events (hKernelIdeal := hKernelIdeal) (hReferenceIdeal := hReferenceIdeal) (hPre_unit_events := hPre_unit_events)
-- ==== Pre_unit_events.lean ====
abbrev S500000x4 : Shape := ⟨2, ![500000, 4]⟩
abbrev S128x4 : Shape := ⟨2, ![128, 4]⟩
abbrev S128 : Shape := ⟨1, ![128]⟩
abbrev S128x128 : Shape := ⟨2, ![128, 128]⟩
abbrev S1x128 : Shape := ⟨2, ![1, 128]⟩
abbrev S1 : Shape := ⟨1, ![1]⟩
abbrev S500000x2 : Shape := ⟨2, ![500000, 2]⟩
abbrev S_ : Shape := ⟨0, ![]⟩
abbrev S128x2 : Shape := ⟨2, ![128, 2]⟩

class Facts : Prop where
  slices_S500000x4_S500000x2_0_1 : S500000x4.Slices ![0, 1] S500000x2
  bcast_S_S500000x4 : S_.BroadcastsInDim S500000x4 (![] : Fin 0 → Fin S500000x4.rank)
  reducesTo_S500000x4_S_d0_1 : S500000x4.ReducesTo [0, 1] S_
  h_S_ : 0 < S_.numel
  bcast_S_S500000x2 : S_.BroadcastsInDim S500000x2 (![] : Fin 0 → Fin S500000x2.rank)
  reducesTo_S500000x2_S_d0_1 : S500000x2.ReducesTo [0, 1] S_
  slices_S128x4_S128x2_0_0 : S128x4.Slices ![0, 0] S128x2
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg5 : FVec F S1x128 .f32) (main_arg6 : FVec F S1 .f32) (main_v33 : IVec S_ 1) : IVec S_ 1 :=
  let main_v34 : FVec F S1x128 .f32 := Host.absf main_arg5
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg6
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg2 : FVec F S128 .f32) (main_arg3 : FVec F S128x128 .f32) (main_arg4 : FVec F S128 .f32) (main_arg5 : FVec F S1x128 .f32) (main_arg6 : FVec F S1 .f32) (main_v12 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v12 main_v17
  let main_v19 : FVec F S128 .f32 := Host.absf main_arg2
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg3
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg4
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg5 main_arg6 main_v33

def fn {F : FTy → Type} [FloatOps F] (main_arg0 : FVec F S500000x4 .f32) (main_arg1 : FVec F S128x4 .f32) (main_arg2 : FVec F S128 .f32) (main_arg3 : FVec F S128x128 .f32) (main_arg4 : FVec F S128 .f32) (main_arg5 : FVec F S1x128 .f32) (main_arg6 : FVec F S1 .f32) : IVec S_ 1 :=
  let main_v0 : FVec F S500000x2 .f32 := (extractStridedSlice S500000x2 ![0, 1] · slices_S500000x4_S500000x2_0_1) main_arg0
  let main_v1 : FVec F S500000x4 .f32 := Host.absf main_arg0
  let main_cst : FVec F S_ .f32 := constant S_ .f32 0x7F800000#32
  let main_v2 : FVec F S500000x4 .f32 := broadcastInDim S500000x4 ![] bcast_S_S500000x4 main_cst
  let main_v3 : IVec S500000x4 1 := cmpf .olt main_v1 main_v2
  let main_c : IVec S_ 1 := constantI S_ 1 1#1
  let main_v4 : IVec S_ 1 := (fun x v => Host.reduce IntOp.andi x v reducesTo_S500000x4_S_d0_1 h_S_) main_v3 main_c
  let main_cst_0 : FVec F S_ .f32 := constant S_ .f32 0x00000000#32
  let main_v5 : FVec F S500000x2 .f32 := broadcastInDim S500000x2 ![] bcast_S_S500000x2 main_cst_0
  let main_v6 : IVec S500000x2 1 := cmpf .oge main_v0 main_v5
  let main_c_1 : IVec S_ 1 := constantI S_ 1 1#1
  let main_v7 : IVec S_ 1 := (fun x v => Host.reduce IntOp.andi x v reducesTo_S500000x2_S_d0_1 h_S_) main_v6 main_c_1
  let main_v8 : IVec S_ 1 := andi main_v4 main_v7
  let main_cst_2 : FVec F S_ .f32 := constant S_ .f32 0x3F800000#32
  let main_v9 : FVec F S500000x2 .f32 := broadcastInDim S500000x2 ![] bcast_S_S500000x2 main_cst_2
  let main_v10 : IVec S500000x2 1 := cmpf .olt main_v0 main_v9
  let main_c_3 : IVec S_ 1 := constantI S_ 1 1#1
  let main_v11 : IVec S_ 1 := (fun x v => Host.reduce IntOp.andi x v reducesTo_S500000x2_S_d0_1 h_S_) main_v10 main_c_3
  let main_v12 : IVec S_ 1 := andi main_v8 main_v11
  let main_v13 : FVec F S128x2 .f32 := (extractStridedSlice S128x2 ![0, 0] · slices_S128x4_S128x2_0_0) main_arg1
  let main_v14 : FVec F S128x2 .f32 := Host.absf main_v13
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg2 main_arg3 main_arg4 main_arg5 main_arg6 main_v12 main_v16
-- ==== Kernel.lean ====
abbrev S500000x4 : Shape := ⟨2, ![500000, 4]⟩
abbrev S128x4 : Shape := ⟨2, ![128, 4]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x1 : Shape := ⟨2, ![1, 1]⟩
abbrev S_ : Shape := ⟨0, ![]⟩
abbrev S2 : Shape := ⟨1, ![2]⟩
abbrev S128x1 : Shape := ⟨2, ![128, 1]⟩
abbrev S16x128 : Shape := ⟨2, ![16, 128]⟩
abbrev S4000x4 : Shape := ⟨2, ![4000, 4]⟩
abbrev S4000x1 : Shape := ⟨2, ![4000, 1]⟩
abbrev S4000x128 : Shape := ⟨2, ![4000, 128]⟩
abbrev S1x4000x1 : Shape := ⟨3, ![1, 4000, 1]⟩
abbrev S1x1x1 : Shape := ⟨3, ![1, 1, 1]⟩
abbrev S6x128 : Shape := ⟨2, ![6, 128]⟩
abbrev S9x480x640 : Shape := ⟨3, ![9, 480, 640]⟩
abbrev S1x480x640 : Shape := ⟨3, ![1, 480, 640]⟩
abbrev S1x1x128 : Shape := ⟨3, ![1, 1, 128]⟩
abbrev S1x9x480x640 : Shape := ⟨4, ![1, 9, 480, 640]⟩

abbrev nBuf : Space → Nat
  | .hbm => 53
  | .vmem => 14
  | .smem => 0
  | _ => 0

abbrev bufTy : (tb : Table) → Fin (tcTables nBuf tb) → BufTy
  | .hbm, ⟨0, _⟩ => ⟨S500000x4, .f32⟩
  | .hbm, ⟨1, _⟩ => ⟨S128x4, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S128x1, .f32⟩
  | .hbm, ⟨33, _⟩ => ⟨S128, .f32⟩
  | .hbm, ⟨34, _⟩ => ⟨S1x128, .f32⟩
  | .hbm, ⟨35, _⟩ => ⟨S128x1, .f32⟩
  | .hbm, ⟨36, _⟩ => ⟨S128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S128x128, .f32⟩
  | .hbm, ⟨41, _⟩ => ⟨S16x128, .f32⟩
  | .hbm, ⟨42, _⟩ => ⟨S_, .f32⟩
  | .hbm, ⟨43, _⟩ => ⟨S1x128, .f32⟩
  | .hbm, ⟨44, _⟩ => ⟨S_, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S1x128, .f32⟩
  | .hbm, ⟨51, _⟩ => ⟨S9x480x640, .f32⟩
  | .hbm, ⟨52, _⟩ => ⟨S1x9x480x640, .f32⟩
  | .local _ .vmem, ⟨0, _⟩ => ⟨S1x128, .f32⟩
  | .local _ .vmem, ⟨1, _⟩ => ⟨S4000x4, .f32⟩
  | .local _ .vmem, ⟨2, _⟩ => ⟨S4000x4, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S16x128, .f32⟩
  | .local _ .vmem, ⟨9, _⟩ => ⟨S16x128, .f32⟩
  | .local _ .vmem, ⟨10, _⟩ => ⟨S1x128, .f32⟩
  | .local _ .vmem, ⟨11, _⟩ => ⟨S1x128, .f32⟩
  | .local _ .vmem, ⟨12, _⟩ => ⟨S1x480x640, .f32⟩
  | .local _ .vmem, ⟨13, _⟩ => ⟨S1x480x640, .f32⟩
  | _, _ => ⟨S500000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![9], ![false]⟩

def k1_off1 (i : grid1.Coords) : Fin 2 → Nat :=
  let arg0 : BitVec 32 := BitVec.ofNat 32 (i 0).val
  let v0 : Index := Scalar.indexCast arg0
  let c0 : Index := 0#32
  ![v0.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x480x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S500000x4 : Shape := ⟨2, ![500000, 4]⟩
abbrev S128x4 : Shape := ⟨2, ![128, 4]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x1 : Shape := ⟨2, ![1, 1]⟩
abbrev S_ : Shape := ⟨0, ![]⟩
abbrev S500000x1 : Shape := ⟨2, ![500000, 1]⟩
abbrev S500000 : Shape := ⟨1, ![500000]⟩
abbrev S2764800 : Shape := ⟨1, ![2764800]⟩
abbrev S4x128 : Shape := ⟨2, ![4, 128]⟩
abbrev S500000x128 : Shape := ⟨2, ![500000, 128]⟩
abbrev S128x1 : Shape := ⟨2, ![128, 1]⟩
abbrev S1x9x480x640 : Shape := ⟨4, ![1, 9, 480, 640]⟩

abbrev nBuf : Space → Nat
  | .hbm => 512
  | .vmem => 0
  | .smem => 0
  | _ => 0

abbrev hbmTy0_0 (i : Nat) : BufTy := match i % 128 with
  | 0 => ⟨S500000x4, .f32⟩
  | 1 => ⟨S128x4, .f32⟩
  | 2 => ⟨S128, .f32⟩
  | 3 => ⟨S128x128, .f32⟩
  | 4 => ⟨S128, .f32⟩
  | 5 => ⟨S1x128, .f32⟩
  | 6 => ⟨S1, .f32⟩
  | 7 => ⟨S1x1, .f32⟩
  | 8 => ⟨S_, .f32⟩
  | 9 => ⟨S1x1, .f32⟩
  | 10 => ⟨S_, .f32⟩
  | 11 => ⟨S_, .f32⟩
  | 12 => ⟨S_, .f32⟩
  | 13 => ⟨S_, .i1⟩
  | 14 => ⟨S_, .f32⟩
  | 15 => ⟨S_, .f32⟩
  | 16 => ⟨S500000x1, .f32⟩
  | 17 => ⟨S500000, .f32⟩
  | 18 => ⟨S500000, .f32⟩
  | 19 => ⟨S500000, .f32⟩
  | 20 => ⟨S500000, .f32⟩
  | 21 => ⟨S500000, .f32⟩
  | 22 => ⟨S500000x1, .f32⟩
  | 23 => ⟨S500000, .f32⟩
  | 24 => ⟨S500000, .f32⟩
  | 25 => ⟨S500000, .i32⟩
  | 26 => ⟨S500000x1, .f32⟩
  | 27 => ⟨S500000, .f32⟩
  | 28 => ⟨S500000, .f32⟩
  | 29 => ⟨S500000, .i32⟩
  | 30 => ⟨S500000x1, .f32⟩
  | 31 => ⟨S500000, .f32⟩
  | 32 => ⟨S_, .f32⟩
  | 33 => ⟨S500000, .f32⟩
  | 34 => ⟨S500000, .i1⟩
  | 35 => ⟨S_, .f32⟩
  | 36 => ⟨S500000, .f32⟩
  | 37 => ⟨S500000, .f32⟩
  | 38 => ⟨S_, .i32⟩
  | 39 => ⟨S500000, .i32⟩
  | 40 => ⟨S500000, .i32⟩
  | 41 => ⟨S500000, .i32⟩
  | 42 => ⟨S500000, .f32⟩
  | 43 => ⟨S_, .f32⟩
  | 44 => ⟨S500000, .f32⟩
  | 45 => ⟨S500000, .f32⟩
  | 46 => ⟨S500000, .f32⟩
  | 47 => ⟨S_, .f32⟩
  | 48 => ⟨S500000, .f32⟩
  | 49 => ⟨S500000, .f32⟩
  | 50 => ⟨S_, .f32⟩
  | 51 => ⟨S2764800, .f32⟩
  | 52 => ⟨S_, .f32⟩
  | 53 => ⟨S500000, .f32⟩
  | 54 => ⟨S500000, .f32⟩
  | 55 => ⟨S500000x1, .f32⟩
  | 56 => ⟨S500000x1, .f32⟩
  | 57 => ⟨S500000x1, .f32⟩
  | 58 => ⟨S500000x1, .f32⟩
  | 59 => ⟨S500000x4, .f32⟩
  | 60 => ⟨S4x128, .f32⟩
  | 61 => ⟨S500000x128, .f32⟩
  | 62 => ⟨S1x128, .f32⟩
  | 63 => ⟨S500000x128, .f32⟩
  | 64 => ⟨S500000x128, .f32⟩
  | 65 => ⟨S_, .f32⟩
  | 66 => ⟨S500000x128, .f32⟩
  | 67 => ⟨S500000x128, .i1⟩
  | 68 => ⟨S_, .f32⟩
  | 69 => ⟨S500000x128, .f32⟩
  | 70 => ⟨S500000x128, .f32⟩
  | 71 => ⟨S500000x128, .f32⟩
  | 72 => ⟨S128x128, .f32⟩
  | 73 => ⟨S500000x128, .f32⟩
  | 74 => ⟨S1x128, .f32⟩
  | 75 => ⟨S500000x128, .f32⟩
  | 76 => ⟨S500000x128, .f32⟩
  | 77 => ⟨S_, .f32⟩
  | 78 => ⟨S500000x128, .f32⟩
  | 79 => ⟨S500000x128, .i1⟩
  | 80 => ⟨S_, .f32⟩
  | 81 => ⟨S500000x128, .f32⟩
  | 82 => ⟨S500000x128, .f32⟩
  | 83 => ⟨S500000x128, .f32⟩
  | 84 => ⟨S128x1, .f32⟩
  | 85 => ⟨S500000x1, .f32⟩
  | 86 => ⟨S1x1, .f32⟩
  | 87 => ⟨S500000x1, .f32⟩
  | 88 => ⟨S500000x1, .f32⟩
  | 89 => ⟨S500000, .f32⟩
  | 90 => ⟨S500000, .f32⟩
  | 91 => ⟨S_, .i32⟩
  | 92 => ⟨S500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S2764800, .f32⟩
  | 103 => ⟨S_, .f32⟩
  | 104 => ⟨S500000, .f32⟩
  | 105 => ⟨S500000, .f32⟩
  | 106 => ⟨S500000x1, .f32⟩
  | 107 => ⟨S500000x1, .f32⟩
  | 108 => ⟨S500000x1, .f32⟩
  | 109 => ⟨S500000x1, .f32⟩
  | 110 => ⟨S500000x4, .f32⟩
  | 111 => ⟨S4x128, .f32⟩
  | 112 => ⟨S500000x128, .f32⟩
  | 113 => ⟨S1x128, .f32⟩
  | 114 => ⟨S500000x128, .f32⟩
  | 115 => ⟨S500000x128, .f32⟩
  | 116 => ⟨S_, .f32⟩
  | 117 => ⟨S500000x128, .f32⟩
  | 118 => ⟨S500000x128, .i1⟩
  | 119 => ⟨S_, .f32⟩
  | 120 => ⟨S500000x128, .f32⟩
  | 121 => ⟨S500000x128, .f32⟩
  | 122 => ⟨S500000x128, .f32⟩
  | 123 => ⟨S128x128, .f32⟩
  | 124 => ⟨S500000x128, .f32⟩
  | 125 => ⟨S1x128, .f32⟩
  | 126 => ⟨S500000x128, .f32⟩
  | 127 => ⟨S500000x128, .f32⟩
  | _ => ⟨S500000x4, .f32⟩

abbrev hbmTy0_1 (i : Nat) : BufTy := match i % 128 with
  | 0 => ⟨S_, .f32⟩
  | 1 => ⟨S500000x128, .f32⟩
  | 2 => ⟨S500000x128, .i1⟩
  | 3 => ⟨S_, .f32⟩
  | 4 => ⟨S500000x128, .f32⟩
  | 5 => ⟨S500000x128, .f32⟩
  | 6 => ⟨S500000x128, .f32⟩
  | 7 => ⟨S128x1, .f32⟩
  | 8 => ⟨S500000x1, .f32⟩
  | 9 => ⟨S1x1, .f32⟩
  | 10 => ⟨S500000x1, .f32⟩
  | 11 => ⟨S500000x1, .f32⟩
  | 12 => ⟨S500000, .f32⟩
  | 13 => ⟨S500000, .f32⟩
  | 14 => ⟨S_, .i32⟩
  | 15 => ⟨S500000, .i32⟩
  | 16 => ⟨S500000, .i32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S2764800, .f32⟩
  | 26 => ⟨S_, .f32⟩
  | 27 => ⟨S500000, .f32⟩
  | 28 => ⟨S500000, .f32⟩
  | 29 => ⟨S500000x1, .f32⟩
  | 30 => ⟨S500000x1, .f32⟩
  | 31 => ⟨S500000x1, .f32⟩
  | 32 => ⟨S500000x1, .f32⟩
  | 33 => ⟨S500000x4, .f32⟩
  | 34 => ⟨S4x128, .f32⟩
  | 35 => ⟨S500000x128, .f32⟩
  | 36 => ⟨S1x128, .f32⟩
  | 37 => ⟨S500000x128, .f32⟩
  | 38 => ⟨S500000x128, .f32⟩
  | 39 => ⟨S_, .f32⟩
  | 40 => ⟨S500000x128, .f32⟩
  | 41 => ⟨S500000x128, .i1⟩
  | 42 => ⟨S_, .f32⟩
  | 43 => ⟨S500000x128, .f32⟩
  | 44 => ⟨S500000x128, .f32⟩
  | 45 => ⟨S500000x128, .f32⟩
  | 46 => ⟨S128x128, .f32⟩
  | 47 => ⟨S500000x128, .f32⟩
  | 48 => ⟨S1x128, .f32⟩
  | 49 => ⟨S500000x128, .f32⟩
  | 50 => ⟨S500000x128, .f32⟩
  | 51 => ⟨S_, .f32⟩
  | 52 => ⟨S500000x128, .f32⟩
  | 53 => ⟨S500000x128, .i1⟩
  | 54 => ⟨S_, .f32⟩
  | 55 => ⟨S500000x128, .f32⟩
  | 56 => ⟨S500000x128, .f32⟩
  | 57 => ⟨S500000x128, .f32⟩
  | 58 => ⟨S128x1, .f32⟩
  | 59 => ⟨S500000x1, .f32⟩
  | 60 => ⟨S1x1, .f32⟩
  | 61 => ⟨S500000x1, .f32⟩
  | 62 => ⟨S500000x1, .f32⟩
  | 63 => ⟨S500000, .f32⟩
  | 64 => ⟨S500000, .f32⟩
  | 65 => ⟨S_, .i32⟩
  | 66 => ⟨S500000, .i32⟩
  | 67 => ⟨S500000, .i32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S2764800, .f32⟩
  | 77 => ⟨S_, .f32⟩
  | 78 => ⟨S500000, .f32⟩
  | 79 => ⟨S500000, .f32⟩
  | 80 => ⟨S500000x1, .f32⟩
  | 81 => ⟨S500000x1, .f32⟩
  | 82 => ⟨S500000x1, .f32⟩
  | 83 => ⟨S500000x1, .f32⟩
  | 84 => ⟨S500000x4, .f32⟩
  | 85 => ⟨S4x128, .f32⟩
  | 86 => ⟨S500000x128, .f32⟩
  | 87 => ⟨S1x128, .f32⟩
  | 88 => ⟨S500000x128, .f32⟩
  | 89 => ⟨S500000x128, .f32⟩
  | 90 => ⟨S_, .f32⟩
  | 91 => ⟨S500000x128, .f32⟩
  | 92 => ⟨S500000x128, .i1⟩
  | 93 => ⟨S_, .f32⟩
  | 94 => ⟨S500000x128, .f32⟩
  | 95 => ⟨S500000x128, .f32⟩
  | 96 => ⟨S500000x128, .f32⟩
  | 97 => ⟨S128x128, .f32⟩
  | 98 => ⟨S500000x128, .f32⟩
  | 99 => ⟨S1x128, .f32⟩
  | 100 => ⟨S500000x128, .f32⟩
  | 101 => ⟨S500000x128, .f32⟩
  | 102 => ⟨S_, .f32⟩
  | 103 => ⟨S500000x128, .f32⟩
  | 104 => ⟨S500000x128, .i1⟩
  | 105 => ⟨S_, .f32⟩
  | 106 => ⟨S500000x128, .f32⟩
  | 107 => ⟨S500000x128, .f32⟩
  | 108 => ⟨S500000x128, .f32⟩
  | 109 => ⟨S128x1, .f32⟩
  | 110 => ⟨S500000x1, .f32⟩
  | 111 => ⟨S1x1, .f32⟩
  | 112 => ⟨S500000x1, .f32⟩
  | 113 => ⟨S500000x1, .f32⟩
  | 114 => ⟨S500000, .f32⟩
  | 115 => ⟨S500000, .f32⟩
  | 116 => ⟨S_, .i32⟩
  | 117 => ⟨S500000, .i32⟩
  | 118 => ⟨S500000, .i32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S2764800, .f32⟩
  | _ => ⟨S500000x4, .f32⟩

abbrev hbmTy0_2 (i : Nat) : BufTy := match i % 128 with
  | 0 => ⟨S_, .f32⟩
  | 1 => ⟨S500000, .f32⟩
  | 2 => ⟨S500000, .f32⟩
  | 3 => ⟨S500000x1, .f32⟩
  | 4 => ⟨S500000x1, .f32⟩
  | 5 => ⟨S500000x1, .f32⟩
  | 6 => ⟨S500000x1, .f32⟩
  | 7 => ⟨S500000x4, .f32⟩
  | 8 => ⟨S4x128, .f32⟩
  | 9 => ⟨S500000x128, .f32⟩
  | 10 => ⟨S1x128, .f32⟩
  | 11 => ⟨S500000x128, .f32⟩
  | 12 => ⟨S500000x128, .f32⟩
  | 13 => ⟨S_, .f32⟩
  | 14 => ⟨S500000x128, .f32⟩
  | 15 => ⟨S500000x128, .i1⟩
  | 16 => ⟨S_, .f32⟩
  | 17 => ⟨S500000x128, .f32⟩
  | 18 => ⟨S500000x128, .f32⟩
  | 19 => ⟨S500000x128, .f32⟩
  | 20 => ⟨S128x128, .f32⟩
  | 21 => ⟨S500000x128, .f32⟩
  | 22 => ⟨S1x128, .f32⟩
  | 23 => ⟨S500000x128, .f32⟩
  | 24 => ⟨S500000x128, .f32⟩
  | 25 => ⟨S_, .f32⟩
  | 26 => ⟨S500000x128, .f32⟩
  | 27 => ⟨S500000x128, .i1⟩
  | 28 => ⟨S_, .f32⟩
  | 29 => ⟨S500000x128, .f32⟩
  | 30 => ⟨S500000x128, .f32⟩
  | 31 => ⟨S500000x128, .f32⟩
  | 32 => ⟨S128x1, .f32⟩
  | 33 => ⟨S500000x1, .f32⟩
  | 34 => ⟨S1x1, .f32⟩
  | 35 => ⟨S500000x1, .f32⟩
  | 36 => ⟨S500000x1, .f32⟩
  | 37 => ⟨S500000, .f32⟩
  | 38 => ⟨S500000, .f32⟩
  | 39 => ⟨S_, .i32⟩
  | 40 => ⟨S500000, .i32⟩
  | 41 => ⟨S500000, .i32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S2764800, .f32⟩
  | 51 => ⟨S_, .f32⟩
  | 52 => ⟨S500000, .f32⟩
  | 53 => ⟨S500000, .f32⟩
  | 54 => ⟨S500000x1, .f32⟩
  | 55 => ⟨S500000x1, .f32⟩
  | 56 => ⟨S500000x1, .f32⟩
  | 57 => ⟨S500000x1, .f32⟩
  | 58 => ⟨S500000x4, .f32⟩
  | 59 => ⟨S4x128, .f32⟩
  | 60 => ⟨S500000x128, .f32⟩
  | 61 => ⟨S1x128, .f32⟩
  | 62 => ⟨S500000x128, .f32⟩
  | 63 => ⟨S500000x128, .f32⟩
  | 64 => ⟨S_, .f32⟩
  | 65 => ⟨S500000x128, .f32⟩
  | 66 => ⟨S500000x128, .i1⟩
  | 67 => ⟨S_, .f32⟩
  | 68 => ⟨S500000x128, .f32⟩
  | 69 => ⟨S500000x128, .f32⟩
  | 70 => ⟨S500000x128, .f32⟩
  | 71 => ⟨S128x128, .f32⟩
  | 72 => ⟨S500000x128, .f32⟩
  | 73 => ⟨S1x128, .f32⟩
  | 74 => ⟨S500000x128, .f32⟩
  | 75 => ⟨S500000x128, .f32⟩
  | 76 => ⟨S_, .f32⟩
  | 77 => ⟨S500000x128, .f32⟩
  | 78 => ⟨S500000x128, .i1⟩
  | 79 => ⟨S_, .f32⟩
  | 80 => ⟨S500000x128, .f32⟩
  | 81 => ⟨S500000x128, .f32⟩
  | 82 => ⟨S500000x128, .f32⟩
  | 83 => ⟨S128x1, .f32⟩
  | 84 => ⟨S500000x1, .f32⟩
  | 85 => ⟨S1x1, .f32⟩
  | 86 => ⟨S500000x1, .f32⟩
  | 87 => ⟨S500000x1, .f32⟩
  | 88 => ⟨S500000, .f32⟩
  | 89 => ⟨S500000, .f32⟩
  | 90 => ⟨S_, .i32⟩
  | 91 => ⟨S500000, .i32⟩
  | 92 => ⟨S500000, .i32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S2764800, .f32⟩
  | 102 => ⟨S_, .f32⟩
  | 103 => ⟨S500000, .f32⟩
  | 104 => ⟨S500000, .f32⟩
  | 105 => ⟨S500000x1, .f32⟩
  | 106 => ⟨S500000x1, .f32⟩
  | 107 => ⟨S500000x1, .f32⟩
  | 108 => ⟨S500000x1, .f32⟩
  | 109 => ⟨S500000x4, .f32⟩
  | 110 => ⟨S4x128, .f32⟩
  | 111 => ⟨S500000x128, .f32⟩
  | 112 => ⟨S1x128, .f32⟩
  | 113 => ⟨S500000x128, .f32⟩
  | 114 => ⟨S500000x128, .f32⟩
  | 115 => ⟨S_, .f32⟩
  | 116 => ⟨S500000x128, .f32⟩
  | 117 => ⟨S500000x128, .i1⟩
  | 118 => ⟨S_, .f32⟩
  | 119 => ⟨S500000x128, .f32⟩
  | 120 => ⟨S500000x128, .f32⟩
  | 121 => ⟨S500000x128, .f32⟩
  | 122 => ⟨S128x128, .f32⟩
  | 123 => ⟨S500000x128, .f32⟩
  | 124 => ⟨S1x128, .f32⟩
  | 125 => ⟨S500000x128, .f32⟩
  | 126 => ⟨S500000x128, .f32⟩
  | 127 => ⟨S_, .f32⟩
  | _ => ⟨S500000x4, .f32⟩

abbrev hbmTy0_3 (i : Nat) : BufTy := match i % 128 with
  | 0 => ⟨S500000x128, .f32⟩
  | 1 => ⟨S500000x128, .i1⟩
  | 2 => ⟨S_, .f32⟩
  | 3 => ⟨S500000x128, .f32⟩
  | 4 => ⟨S500000x128, .f32⟩
  | 5 => ⟨S500000x128, .f32⟩
  | 6 => ⟨S128x1, .f32⟩
  | 7 => ⟨S500000x1, .f32⟩
  | 8 => ⟨S1x1, .f32⟩
  | 9 => ⟨S500000x1, .f32⟩
  | 10 => ⟨S500000x1, .f32⟩
  | 11 => ⟨S500000, .f32⟩
  | 12 => ⟨S500000, .f32⟩
  | 13 => ⟨S_, .i32⟩
  | 14 => ⟨S500000, .i32⟩
  | 15 => ⟨S500000, .i32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S2764800, .f32⟩
  | 25 => ⟨S_, .f32⟩
  | 26 => ⟨S500000, .f32⟩
  | 27 => ⟨S500000, .f32⟩
  | 28 => ⟨S500000x1, .f32⟩
  | 29 => ⟨S500000x1, .f32⟩
  | 30 => ⟨S500000x1, .f32⟩
  | 31 => ⟨S500000x1, .f32⟩
  | 32 => ⟨S500000x4, .f32⟩
  | 33 => ⟨S4x128, .f32⟩
  | 34 => ⟨S500000x128, .f32⟩
  | 35 => ⟨S1x128, .f32⟩
  | 36 => ⟨S500000x128, .f32⟩
  | 37 => ⟨S500000x128, .f32⟩
  | 38 => ⟨S_, .f32⟩
  | 39 => ⟨S500000x128, .f32⟩
  | 40 => ⟨S500000x128, .i1⟩
  | 41 => ⟨S_, .f32⟩
  | 42 => ⟨S500000x128, .f32⟩
  | 43 => ⟨S500000x128, .f32⟩
  | 44 => ⟨S500000x128, .f32⟩
  | 45 => ⟨S128x128, .f32⟩
  | 46 => ⟨S500000x128, .f32⟩
  | 47 => ⟨S1x128, .f32⟩
  | 48 => ⟨S500000x128, .f32⟩
  | 49 => ⟨S500000x128, .f32⟩
  | 50 => ⟨S_, .f32⟩
  | 51 => ⟨S500000x128, .f32⟩
  | 52 => ⟨S500000x128, .i1⟩
  | 53 => ⟨S_, .f32⟩
  | 54 => ⟨S500000x128, .f32⟩
  | 55 => ⟨S500000x128, .f32⟩
  | 56 => ⟨S500000x128, .f32⟩
  | 57 => ⟨S128x1, .f32⟩
  | 58 => ⟨S500000x1, .f32⟩
  | 59 => ⟨S1x1, .f32⟩
  | 60 => ⟨S500000x1, .f32⟩
  | 61 => ⟨S500000x1, .f32⟩
  | 62 => ⟨S500000, .f32⟩
  | 63 => ⟨S500000, .f32⟩
  | 64 => ⟨S_, .i32⟩
  | 65 => ⟨S500000, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S2764800, .f32⟩
  | 76 => ⟨S_, .f32⟩
  | 77 => ⟨S500000, .f32⟩
  | 78 => ⟨S500000, .f32⟩
  | 79 => ⟨S500000x1, .f32⟩
  | 80 => ⟨S500000x1, .f32⟩
  | 81 => ⟨S500000x1, .f32⟩
  | 82 => ⟨S500000x1, .f32⟩
  | 83 => ⟨S500000x4, .f32⟩
  | 84 => ⟨S4x128, .f32⟩
  | 85 => ⟨S500000x128, .f32⟩
  | 86 => ⟨S1x128, .f32⟩
  | 87 => ⟨S500000x128, .f32⟩
  | 88 => ⟨S500000x128, .f32⟩
  | 89 => ⟨S_, .f32⟩
  | 90 => ⟨S500000x128, .f32⟩
  | 91 => ⟨S500000x128, .i1⟩
  | 92 => ⟨S_, .f32⟩
  | 93 => ⟨S500000x128, .f32⟩
  | 94 => ⟨S500000x128, .f32⟩
  | 95 => ⟨S500000x128, .f32⟩
  | 96 => ⟨S128x128, .f32⟩
  | 97 => ⟨S500000x128, .f32⟩
  | 98 => ⟨S1x128, .f32⟩
  | 99 => ⟨S500000x128, .f32⟩
  | 100 => ⟨S500000x128, .f32⟩
  | 101 => ⟨S_, .f32⟩
  | 102 => ⟨S500000x128, .f32⟩
  | 103 => ⟨S500000x128, .i1⟩
  | 104 => ⟨S_, .f32⟩
  | 105 => ⟨S500000x128, .f32⟩
  | 106 => ⟨S500000x128, .f32⟩
  | 107 => ⟨S500000x128, .f32⟩
  | 108 => ⟨S128x1, .f32⟩
  | 109 => ⟨S500000x1, .f32⟩
  | 110 => ⟨S1x1, .f32⟩
  | 111 => ⟨S500000x1, .f32⟩
  | 112 => ⟨S500000x1, .f32⟩
  | 113 => ⟨S500000, .f32⟩
  | 114 => ⟨S500000, .f32⟩
  | 115 => ⟨S_, .i32⟩
  | 116 => ⟨S500000, .i32⟩
  | 117 => ⟨S500000, .i32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S2764800, .f32⟩
  | 127 => ⟨S1x9x480x640, .f32⟩
  | _ => ⟨S500000x4, .f32⟩

abbrev hbmTy (i : Nat) : BufTy := match i / 128 with
  | 0 => hbmTy0_0 i
  | 1 => hbmTy0_1 i
  | 2 => hbmTy0_2 i
  | 3 => hbmTy0_3 i
  | _ => ⟨S500000x4, .f32⟩

abbrev bufTy : (tb : Table) → Fin (tcTables nBuf tb) → BufTy
  | .hbm, ⟨i, _⟩ => hbmTy i
  | _, _ => ⟨S500000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_call1_v0 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_11 : Ref sig .tc := ⟨.hbm, 91, rfl⟩
abbrev main_v70 : Ref sig .tc := ⟨.hbm, 92, rfl⟩
abbrev main_v71 : Ref sig .tc := ⟨.hbm, 93, rfl⟩
abbrev main_c_12 : Ref sig .tc := ⟨.hbm, 94, rfl⟩
abbrev main_v72 : Ref sig .tc := ⟨.hbm, 95, rfl⟩
abbrev main_v73 : Ref sig .tc := ⟨.hbm, 96, rfl⟩
abbrev main_c_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_15 : Ref sig .tc := ⟨.hbm, 116, rfl⟩
abbrev main_v91 : Ref sig .tc := ⟨.hbm, 117, rfl⟩
abbrev main_v92 : Ref sig .tc := ⟨.hbm, 118, rfl⟩
abbrev main_cst_16 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_17 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_c_19 : Ref sig .tc := ⟨.hbm, 142, rfl⟩
abbrev main_v113 : Ref sig .tc := ⟨.hbm, 143, rfl⟩
abbrev main_v114 : Ref sig .tc := ⟨.hbm, 144, rfl⟩
abbrev main_c_20 : Ref sig .tc := ⟨.hbm, 145, rfl⟩
abbrev main_v115 : Ref sig .tc := ⟨.hbm, 146, rfl⟩
abbrev main_v116 : Ref sig .tc := ⟨.hbm, 147, rfl⟩
abbrev main_c_21 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_22 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_23 : Ref sig .tc := ⟨.hbm, 167, rfl⟩
abbrev main_v134 : Ref sig .tc := ⟨.hbm, 168, rfl⟩
abbrev main_v135 : Ref sig .tc := ⟨.hbm, 169, rfl⟩
abbrev main_cst_24 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_25 : Ref sig .tc := ⟨.hbm, 179, rfl⟩
abbrev main_v144 : Ref sig .tc := ⟨.hbm, 180, rfl⟩
abbrev main_v145 : Ref sig .tc := ⟨.hbm, 181, rfl⟩
abbrev main_cst_26 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_c_27 : Ref sig .tc := ⟨.hbm, 193, rfl⟩
abbrev main_v156 : Ref sig .tc := ⟨.hbm, 194, rfl⟩
abbrev main_v157 : Ref sig .tc := ⟨.hbm, 195, rfl⟩
abbrev main_c_28 : Ref sig .tc := ⟨.hbm, 196, rfl⟩
abbrev main_v158 : Ref sig .tc := ⟨.hbm, 197, rfl⟩
abbrev main_v159 : Ref sig .tc := ⟨.hbm, 198, rfl⟩
abbrev main_c_29 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_30 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_cst_31 : Ref sig .tc := ⟨.hbm, 218, rfl⟩
abbrev main_v177 : Ref sig .tc := ⟨.hbm, 219, rfl⟩
abbrev main_v178 : Ref sig .tc := ⟨.hbm, 220, rfl⟩
abbrev main_cst_32 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_cst_33 : Ref sig .tc := ⟨.hbm, 230, rfl⟩
abbrev main_v187 : Ref sig .tc := ⟨.hbm, 231, rfl⟩
abbrev main_v188 : Ref sig .tc := ⟨.hbm, 232, rfl⟩
abbrev main_cst_34 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_c_35 : Ref sig .tc := ⟨.hbm, 244, rfl⟩
abbrev main_v199 : Ref sig .tc := ⟨.hbm, 245, rfl⟩
abbrev main_v200 : Ref sig .tc := ⟨.hbm, 246, rfl⟩
abbrev main_c_36 : Ref sig .tc := ⟨.hbm, 247, rfl⟩
abbrev main_v201 : Ref sig .tc := ⟨.hbm, 248, rfl⟩
abbrev main_v202 : Ref sig .tc := ⟨.hbm, 249, rfl⟩
abbrev main_c_37 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_cst_38 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_cst_39 : Ref sig .tc := ⟨.hbm, 269, rfl⟩
abbrev main_v220 : Ref sig .tc := ⟨.hbm, 270, rfl⟩
abbrev main_v221 : Ref sig .tc := ⟨.hbm, 271, rfl⟩
abbrev main_cst_40 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_cst_41 : Ref sig .tc := ⟨.hbm, 281, rfl⟩
abbrev main_v230 : Ref sig .tc := ⟨.hbm, 282, rfl⟩
abbrev main_v231 : Ref sig .tc := ⟨.hbm, 283, rfl⟩
abbrev main_cst_42 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_c_43 : Ref sig .tc := ⟨.hbm, 295, rfl⟩
abbrev main_v242 : Ref sig .tc := ⟨.hbm, 296, rfl⟩
abbrev main_v243 : Ref sig .tc := ⟨.hbm, 297, rfl⟩
abbrev main_c_44 : Ref sig .tc := ⟨.hbm, 298, rfl⟩
abbrev main_v244 : Ref sig .tc := ⟨.hbm, 299, rfl⟩
abbrev main_v245 : Ref sig .tc := ⟨.hbm, 300, rfl⟩
abbrev main_c_45 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_cst_46 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_cst_47 : Ref sig .tc := ⟨.hbm, 320, rfl⟩
abbrev main_v263 : Ref sig .tc := ⟨.hbm, 321, rfl⟩
abbrev main_v264 : Ref sig .tc := ⟨.hbm, 322, rfl⟩
abbrev main_cst_48 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_cst_49 : Ref sig .tc := ⟨.hbm, 332, rfl⟩
abbrev main_v273 : Ref sig .tc := ⟨.hbm, 333, rfl⟩
abbrev main_v274 : Ref sig .tc := ⟨.hbm, 334, rfl⟩
abbrev main_cst_50 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_c_51 : Ref sig .tc := ⟨.hbm, 346, rfl⟩
abbrev main_v285 : Ref sig .tc := ⟨.hbm, 347, rfl⟩
abbrev main_v286 : Ref sig .tc := ⟨.hbm, 348, rfl⟩
abbrev main_c_52 : Ref sig .tc := ⟨.hbm, 349, rfl⟩
abbrev main_v287 : Ref sig .tc := ⟨.hbm, 350, rfl⟩
abbrev main_v288 : Ref sig .tc := ⟨.hbm, 351, rfl⟩
abbrev main_c_53 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_cst_54 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_cst_55 : Ref sig .tc := ⟨.hbm, 371, rfl⟩
abbrev main_v306 : Ref sig .tc := ⟨.hbm, 372, rfl⟩
abbrev main_v307 : Ref sig .tc := ⟨.hbm, 373, rfl⟩
abbrev main_cst_56 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_cst_57 : Ref sig .tc := ⟨.hbm, 383, rfl⟩
abbrev main_v316 : Ref sig .tc := ⟨.hbm, 384, rfl⟩
abbrev main_v317 : Ref sig .tc := ⟨.hbm, 385, rfl⟩
abbrev main_cst_58 : Ref sig .tc := ⟨.hbm, 386, rfl⟩
abbrev main_v318 : Ref sig .tc := ⟨.hbm, 387, rfl⟩
abbrev main_v319 : Ref sig .tc := ⟨.hbm, 388, rfl⟩
abbrev main_v320 : Ref sig .tc := ⟨.hbm, 389, rfl⟩
abbrev main_v321 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_c_59 : Ref sig .tc := ⟨.hbm, 397, rfl⟩
abbrev main_v328 : Ref sig .tc := ⟨.hbm, 398, rfl⟩
abbrev main_v329 : Ref sig .tc := ⟨.hbm, 399, rfl⟩
abbrev main_c_60 : Ref sig .tc := ⟨.hbm, 400, rfl⟩
abbrev main_v330 : Ref sig .tc := ⟨.hbm, 401, rfl⟩
abbrev main_v331 : Ref sig .tc := ⟨.hbm, 402, rfl⟩
abbrev main_c_61 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_cst_62 : Ref sig .tc := ⟨.hbm, 409, rfl⟩
abbrev main_v337 : Ref sig .tc := ⟨.hbm, 410, rfl⟩
abbrev main_v338 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_v345 : Ref sig .tc := ⟨.hbm, 418, rfl⟩
abbrev main_v346 : Ref sig .tc := ⟨.hbm, 419, rfl⟩
abbrev main_v347 : Ref sig .tc := ⟨.hbm, 420, rfl⟩
abbrev main_v348 : Ref sig .tc := ⟨.hbm, 421, rfl⟩
abbrev main_cst_63 : Ref sig .tc := ⟨.hbm, 422, rfl⟩
abbrev main_v349 : Ref sig .tc := ⟨.hbm, 423, rfl⟩
abbrev main_v350 : Ref sig .tc := ⟨.hbm, 424, rfl⟩
abbrev main_cst_64 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_v356 : Ref sig .tc := ⟨.hbm, 431, rfl⟩
abbrev main_v357 : Ref sig .tc := ⟨.hbm, 432, rfl⟩
abbrev main_v358 : Ref sig .tc := ⟨.hbm, 433, rfl⟩
abbrev main_cst_65 : Ref sig .tc := ⟨.hbm, 434, rfl⟩
abbrev main_v359 : Ref sig .tc := ⟨.hbm, 435, rfl⟩
abbrev main_v360 : Ref sig .tc := ⟨.hbm, 436, rfl⟩
abbrev main_cst_66 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_v367 : Ref sig .tc := ⟨.hbm, 444, rfl⟩
abbrev main_v368 : Ref sig .tc := ⟨.hbm, 445, rfl⟩
abbrev main_v369 : Ref sig .tc := ⟨.hbm, 446, rfl⟩
abbrev main_v370 : Ref sig .tc := ⟨.hbm, 447, rfl⟩
abbrev main_c_67 : Ref sig .tc := ⟨.hbm, 448, rfl⟩
abbrev main_v371 : Ref sig .tc := ⟨.hbm, 449, rfl⟩
abbrev main_v372 : Ref sig .tc := ⟨.hbm, 450, rfl⟩
abbrev main_c_68 : Ref sig .tc := ⟨.hbm, 451, rfl⟩
abbrev main_v373 : Ref sig .tc := ⟨.hbm, 452, rfl⟩
abbrev main_v374 : Ref sig .tc := ⟨.hbm, 453, rfl⟩
abbrev main_c_69 : Ref sig .tc := ⟨.hbm, 454, rfl⟩
abbrev main_v375 : Ref sig .tc := ⟨.hbm, 455, rfl⟩
abbrev main_v376 : Ref sig .tc := ⟨.hbm, 456, rfl⟩
abbrev main_v377 : Ref sig .tc := ⟨.hbm, 457, rfl⟩
abbrev main_v378 : Ref sig .tc := ⟨.hbm, 458, rfl⟩
abbrev main_v379 : Ref sig .tc := ⟨.hbm, 459, rfl⟩
abbrev main_cst_70 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_v390 : Ref sig .tc := ⟨.hbm, 471, rfl⟩
abbrev main_v391 : Ref sig .tc := ⟨.hbm, 472, rfl⟩
abbrev main_cst_71 : Ref sig .tc := ⟨.hbm, 473, rfl⟩
abbrev main_v392 : Ref sig .tc := ⟨.hbm, 474, rfl⟩
abbrev main_v393 : Ref sig .tc := ⟨.hbm, 475, rfl⟩
abbrev main_cst_72 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_v397 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_cst_73 : Ref sig .tc := ⟨.hbm, 485, rfl⟩
abbrev main_v402 : Ref sig .tc := ⟨.hbm, 486, rfl⟩
abbrev main_v403 : Ref sig .tc := ⟨.hbm, 487, rfl⟩
abbrev main_cst_74 : Ref sig .tc := ⟨.hbm, 488, rfl⟩
abbrev main_v404 : Ref sig .tc := ⟨.hbm, 489, rfl⟩
abbrev main_v405 : Ref sig .tc := ⟨.hbm, 490, rfl⟩
abbrev main_v406 : Ref sig .tc := ⟨.hbm, 491, rfl⟩
abbrev main_v407 : Ref sig .tc := ⟨.hbm, 492, rfl⟩
abbrev main_v408 : Ref sig .tc := ⟨.hbm, 493, rfl⟩
abbrev main_v409 : Ref sig .tc := ⟨.hbm, 494, rfl⟩
abbrev main_v410 : Ref sig .tc := ⟨.hbm, 495, rfl⟩
abbrev main_v411 : Ref sig .tc := ⟨.hbm, 496, rfl⟩
abbrev main_v412 : Ref sig .tc := ⟨.hbm, 497, rfl⟩
abbrev main_v413 : Ref sig .tc := ⟨.hbm, 498, rfl⟩
abbrev main_c_75 : Ref sig .tc := ⟨.hbm, 499, rfl⟩
abbrev main_v414 : Ref sig .tc := ⟨.hbm, 500, rfl⟩
abbrev main_v415 : Ref sig .tc := ⟨.hbm, 501, rfl⟩
abbrev main_c_76 : Ref sig .tc := ⟨.hbm, 502, rfl⟩
abbrev main_v416 : Ref sig .tc := ⟨.hbm, 503, rfl⟩
abbrev main_v417 : Ref sig .tc := ⟨.hbm, 504, rfl⟩
abbrev main_c_77 : Ref sig .tc := ⟨.hbm, 505, rfl⟩
abbrev main_v418 : Ref sig .tc := ⟨.hbm, 506, rfl⟩
abbrev main_v419 : Ref sig .tc := ⟨.hbm, 507, rfl⟩
abbrev main_v420 : Ref sig .tc := ⟨.hbm, 508, rfl⟩
abbrev main_v421 : Ref sig .tc := ⟨.hbm, 509, rfl⟩
abbrev main_v422 : Ref sig .tc := ⟨.hbm, 510, rfl⟩
abbrev main_v423 : Ref sig .tc := ⟨.hbm, 511, rfl⟩

abbrev nD : Nat := 1
abbrev τ : Topo := Topo.v7x

variable {F : FTy → Type} [FloatOps F]
-- ==== Proof.PreFacts.lean ====
/-
  What the precondition says of the arguments, element by element: every number the two programs use is a real number,
  and each event's two pixel coordinates lie in [0, 1).
-/
module

public import proofs.«01_k».proof.Pre_unit_events
public import Idealize.ShloMosaic.Lib.ReduceAll
public import Idealize.ShloMosaic.Lib.Pointwise
public import Idealize.ShloMosaic.Lib.StableHlo.Predicate

@[expose] public section

set_option maxRecDepth 16384

noncomputable section

namespace Cert.Voxel

open Idealize.ShloMosaic

/-- The shape relations the precondition's operations take. -/
theorem preFacts : Cert.Pre_unit_events.Facts where
  slices_S500000x4_S500000x2_0_1 := by decide
  bcast_S_S500000x4 := by decide
  reducesTo_S500000x4_S_d0_1 := by decide
  h_S_ := by decide
  bcast_S_S500000x2 := by decide
  reducesTo_S500000x2_S_d0_1 := by decide
  slices_S128x4_S128x2_0_0 := by decide
  bcast_S_S128x2 := by decide
  reducesTo_S128x2_S_d0_1 := by decide
  bcast_S_S128 := by decide
  reducesTo_S128_S_d0 := by decide
  bcast_S_S128x128 := by decide
  reducesTo_S128x128_S_d0_1 := by decide
  bcast_S_S1x128 := by decide
  reducesTo_S1x128_S_d0_1 := by decide
  bcast_S_S1 := by decide
  reducesTo_S1_S_d0 := by decide

/-- An extended real number whose absolute value is below infinity is a real number. -/
theorem real_of_abs_lt (x : EReal) (h : max x (-x) < ⊤) : ∃ r : ℝ, x = (r : EReal) := by
  induction x using EReal.rec with
  | bot => simp at h
  | top => simp at h
  | coe r => exact ⟨r, rfl⟩

/-- Two flags meet in a set flag exactly when both are set. -/
theorem andi_one (a b : BitVec 1) : IntOp.andi a b = 1#1 ↔ a = 1#1 ∧ b = 1#1 := by
  revert a b; decide

open Cert.Pre_unit_events in
/-- The precondition's test that an array is finite, passed: every element is a real number. -/
theorem finite_of_test {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, x i = (r : EReal) := by
  have hs : Subsingleton S_.Idx := ⟨fun a b => funext fun k => k.elim0⟩
  have h := Host.reduce_andi_all _ _ hr hu j e i
  have h' : BitVec.ofBool (decide (max (x i) (-(x i)) < Ideal.ofBits .f32 0x7F800000#32)) = 1#1 := h
  rw [StableHlo.Predicate.ofBool_eq_one_iff, decide_eq_true_iff] at h'
  refine real_of_abs_lt _ (lt_of_lt_of_eq h' ?_)
  simp [Ideal.ofBits, Ideal.ieee]

/-- What the precondition grants. -/
structure Tame (ev : FVec Ideal ⟨2, ![500000, 4]⟩ .f32) (W0 : FVec Ideal ⟨2, ![128, 4]⟩ .f32) (b0 : FVec Ideal ⟨1, ![128]⟩ .f32)
    (W1 : FVec Ideal ⟨2, ![128, 128]⟩ .f32) (b1 : FVec Ideal ⟨1, ![128]⟩ .f32) (W2 : FVec Ideal ⟨2, ![1, 128]⟩ .f32)
    (b2 : FVec Ideal ⟨1, ![1]⟩ .f32) : Prop where
  /-- every coordinate of every event is a real number -/
  h_ev : ∀ i, ∃ r : ℝ, ev i = (r : EReal)
  /-- each event's first pixel coordinate lies in [0, 1) -/
  h_x : ∀ n, 0 ≤ ev (ix2 n 1) ∧ ev (ix2 n 1) < 1
  /-- each event's second pixel coordinate lies in [0, 1) -/
  h_y : ∀ n, 0 ≤ ev (ix2 n 2) ∧ ev (ix2 n 2) < 1
  /-- the first layer's weights on the time are real numbers -/
  h_wt : ∀ j, ∃ r : ℝ, W0 (ix2 j 0) = (r : EReal)
  /-- the first layer's weights on the polarity are real numbers -/
  h_wp : ∀ j, ∃ r : ℝ, W0 (ix2 j 1) = (r : EReal)
  /-- so is its bias -/
  h_b0 : ∀ i, ∃ r : ℝ, b0 i = (r : EReal)
  /-- so are the second layer's weights -/
  h_W1 : ∀ i, ∃ r : ℝ, W1 i = (r : EReal)
  /-- so is its bias -/
  h_b1 : ∀ i, ∃ r : ℝ, b1 i = (r : EReal)
  /-- so are the last layer's weights -/
  h_W2 : ∀ i, ∃ r : ℝ, W2 i = (r : EReal)
  /-- so is its bias -/
  h_b2 : ∀ i, ∃ r : ℝ, b2 i = (r : EReal)

open Cert.Pre_unit_events in
/-- The precondition, true of the arguments, grants all of it. -/
theorem tame_of_pre [Facts] (ev : FVec Ideal S500000x4 .f32) (W0 : FVec Ideal S128x4 .f32) (b0 : FVec Ideal S128 .f32)
    (W1 : FVec Ideal S128x128 .f32) (b1 : FVec Ideal S128 .f32) (W2 : FVec Ideal S1x128 .f32) (b2 : FVec Ideal S1 .f32)
    (h : fn (F := Ideal) ev W0 b0 W1 b1 W2 b2 = fun _ => 1#1) : Tame ev W0 b0 W1 b1 W2 b2 := by
  have h0 := congrFun h ix0
  unfold fn fn_part1 fn_part2 at h0
  dsimp only [andi] at h0
  simp only [andi_one] at h0
  obtain ⟨⟨⟨⟨⟨⟨⟨⟨hev, hge⟩, hlt⟩, hW0⟩, hb0⟩, hW1⟩, hb1⟩, hW2⟩, hb2⟩ := h0
  have hs : Subsingleton S_.Idx := ⟨fun a b => funext fun k => k.elim0⟩
  have ge : ∀ (n : Fin 500000) (q : Fin 2), 0 ≤ ev (ix2 n ⟨1 + q.val, by omega⟩) := fun n q => by
    have h1 := Host.reduce_andi_all _ _ _ _ ix0 hge (ix2 n q)
    revert h1
    pointwise
    rw [StableHlo.Predicate.ofBool_eq_one_iff, decide_eq_true_iff]
    exact id
  have lt : ∀ (n : Fin 500000) (q : Fin 2), ev (ix2 n ⟨1 + q.val, by omega⟩) < 1 := fun n q => by
    have h1 := Host.reduce_andi_all _ _ _ _ ix0 hlt (ix2 n q)
    revert h1
    pointwise
    rw [StableHlo.Predicate.ofBool_eq_one_iff, decide_eq_true_iff]
    exact id
  have w : ∀ (j : Fin 128) (q : Fin 2), ∃ r : ℝ, W0 (ix2 j ⟨q.val, by omega⟩) = (r : EReal) := fun j q => by
    obtain ⟨r, hr⟩ := finite_of_test _ _ _ _ _ hW0 (ix2 j q)
    refine ⟨r, ?_⟩
    rw [← hr]
    pointwise
  exact ⟨finite_of_test _ _ _ _ _ hev, fun n => ⟨ge n 0, lt n 0⟩, fun n => ⟨ge n 1, lt n 1⟩, fun j => w j 0, fun j => w j 1, finite_of_test _ _ _ _ _ hb0,
    finite_of_test _ _ _ _ _ hW1, finite_of_test _ _ _ _ _ hb1, finite_of_test _ _ _ _ _ hW2, finite_of_test _ _ _ _ _ hb2⟩

end Cert.Voxel

end
-- ==== Proof.Spec.lean ====
/-
  The mathematics both programs compute, over the real numbers: a two-layer perceptron applied to every event at each
  of nine time offsets, weighted by the event's time and summed over the events, one total per offset. No program is
  mentioned here.
-/
module

public import Idealize.ShloMosaic.PureOps
public import Idealize.ShloMosaic.Lib.IdealHost

@[expose] public section

noncomputable section

namespace Cert.Voxel

open Idealize.ShloMosaic

/-- The real number a single-precision word denotes (0 for a word that denotes none). -/
def word (b : BitVec 32) : ℝ := (Ideal.ofBits .f32 b).toReal

/-- The slope of the perceptron's activation left of zero. -/
def slope : ℝ := word 0x3DCCCCCD#32

/-- The activation: the identity from zero on, a line of slope `slope` below. -/
def leak (x : ℝ) : ℝ := if 0 ≤ x then x else slope * x

/-- The words of the nine time offsets `0, 1/8, …, 1`. -/
def offsets : Fin 9 → BitVec 32 :=
  ![0x00000000#32, 0x3E000000#32, 0x3E800000#32, 0x3EC00000#32, 0x3F000000#32, 0x3F200000#32, 0x3F400000#32, 0x3F600000#32, 0x3F800000#32]

/-- The real data both programs work on: each event's scaled time and its polarity, and the perceptron's weights
    (of its first layer only the columns that meet the time and the polarity). -/
structure Data where
  /-- the scaled time of each event -/
  ts : Fin 500000 → ℝ
  /-- the polarity of each event -/
  pol : Fin 500000 → ℝ
  /-- the first layer's weights on the time -/
  wt : Fin 128 → ℝ
  /-- the first layer's weights on the polarity -/
  wp : Fin 128 → ℝ
  /-- the first layer's bias -/
  b0 : Fin 128 → ℝ
  /-- the second layer's weights, `w1 k j` taking unit `j` to unit `k` -/
  w1 : Fin 128 → Fin 128 → ℝ
  /-- the second layer's bias -/
  b1 : Fin 128 → ℝ
  /-- the last layer's weights -/
  w2 : Fin 128 → ℝ
  /-- the last layer's bias -/
  b2 : ℝ

namespace Data

variable (D : Data)

/-- What the first layer hands its activation at unit `j` for an event, its time taken less the offset `c`. -/
def pre0 (c : ℝ) (n : Fin 500000) (j : Fin 128) : ℝ := (D.ts n - c) * D.wt j + D.pol n * D.wp j + D.b0 j

/-- What the second layer hands its activation at unit `k`. -/
def pre1 (c : ℝ) (n : Fin 500000) (k : Fin 128) : ℝ := ∑ j, leak (D.pre0 c n j) * D.w1 k j + D.b1 k

/-- The perceptron's value at an event. -/
def mlp (c : ℝ) (n : Fin 500000) : ℝ := ∑ k, leak (D.pre1 c n k) * D.w2 k + D.b2

/-- The total over the events of time times value, at the offset `c`. -/
def total (c : ℝ) : ℝ := ∑ n, D.ts n * D.mlp c n

/-- The total may be taken layer by layer: the hidden units summed over the events first, the last layer applied to
    their sums, and its bias met by the sum of the times. -/
theorem total_eq (c : ℝ) :
    ∑ k, (∑ n, D.ts n * leak (D.pre1 c n k)) * D.w2 k + D.b2 * ∑ n, D.ts n = D.total c := by
  unfold total mlp
  simp only [mul_add, Finset.sum_add_distrib, Finset.mul_sum, Finset.sum_mul]
  rw [Finset.sum_comm]
  refine congrArg₂ (· + ·) ?_ ?_
  · exact Finset.sum_congr rfl fun n _ => Finset.sum_congr rfl fun k _ => by ring
  · exact Finset.sum_congr rfl fun n _ => mul_comm _ _

/-- The first layer may take the offset's part away afterwards. -/
theorem pre0_eq (c : ℝ) (n : Fin 500000) (j : Fin 128) :
    (D.ts n * D.wt j + D.pol n * D.wp j + D.b0 j) - c * D.wt j = D.pre0 c n j := by
  unfold pre0; ring

/-- The array both programs return: bin `i`'s total at row 0 and column 0 of its image, zero elsewhere. -/
def out (i : Fin 9) (r : Fin 480) (c : Fin 640) : EReal :=
  if r.val = 0 ∧ c.val = 0 then ((D.total (word (offsets i)) : ℝ) : EReal) else 0

end Data

/-! ## The words the programs write down -/

/-- The slope's word denotes a real number. -/
theorem ofBits_slope : Ideal.ofBits .f32 0x3DCCCCCD#32 = ((slope : ℝ) : EReal) := by
  unfold slope word
  simp [Ideal.ofBits, Ideal.ieee, -EReal.coe_mul]

/-- Each offset's word denotes a real number. -/
theorem ofBits_offsets (i : Fin 9) : Ideal.ofBits .f32 (offsets i) = ((word (offsets i) : ℝ) : EReal) := by
  unfold word
  fin_cases i <;> simp [offsets, Ideal.ofBits, Ideal.ieee, -EReal.coe_mul]

/-- The word of minus one denotes a real number. -/
theorem ofBits_neg : Ideal.ofBits .f32 0xBF800000#32 = ((word 0xBF800000#32 : ℝ) : EReal) := by
  unfold word
  simp [Ideal.ofBits, Ideal.ieee, -EReal.coe_mul]

/-- The width the pixel columns are divided by is not zero. -/
theorem ofBits_640_ne : Ideal.ofBits .f32 0x44200000#32 ≠ 0 := by
  have h : Ideal.ofBits .f32 0x44200000#32 = ((640 : ℝ) : EReal) := by
    simp [Ideal.ofBits, Ideal.ieee, -EReal.coe_mul]; norm_num
  rw [h]; exact_mod_cast (by norm_num : (640 : ℝ) ≠ 0)

/-- The height the pixel rows are divided by is not zero. -/
theorem ofBits_480_ne : Ideal.ofBits .f32 0x43F00000#32 ≠ 0 := by
  have h : Ideal.ofBits .f32 0x43F00000#32 = ((480 : ℝ) : EReal) := by
    simp [Ideal.ofBits, Ideal.ieee, -EReal.coe_mul]; norm_num
  rw [h]; exact_mod_cast (by norm_num : (480 : ℝ) ≠ 0)

/-! ## The activation, and sums, at real numbers among the extended ones -/

/-- Choosing between a real number and `slope` times it, as the programs do, is the activation. -/
theorem leak_coe (x : ℝ) : (if (0 : EReal) ≤ (x : EReal) then (x : EReal) else ((slope : ℝ) : EReal) * (x : EReal)) = ((leak x : ℝ) : EReal) := by
  unfold leak
  by_cases h : (0 : ℝ) ≤ x
  · rw [if_pos h, if_pos (by exact_mod_cast h)]
  · rw [if_neg h, if_neg (by exact_mod_cast h), EReal.coe_mul]

/-- A sum of real numbers is the same real number among the extended ones. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Voxel

end
-- ==== Proof.RefTerm.lean ====
/-
  The reference's operations on one time offset, named once: the values it adds at one bin, and the addition itself.
-/
module

public import proofs.«01_k».proof.Proof.Spec
public import proofs.«01_k».proof.Proof.Gen.ReferenceIdeal
public import Idealize.ShloMosaic.Lib.Pointwise

@[expose] public section

set_option maxRecDepth 16384

noncomputable section

namespace Cert.Voxel.Ref

open Cert.ReferenceIdeal Cert.ReferenceIdeal.Gen Idealize.ShloMosaic

/-- What the reference's first layer hands its activation, at the offset whose word is `cw`. -/
def lay0 (cw : BitVec 32) (ts ch x y : FVec Ideal S500000 .f32) (W0 : FVec Ideal S128x4 .f32) (b0 : FVec Ideal S128 .f32) : FVec Ideal S500000x128 .f32 :=
  addf (Host.dotGeneral dot_S500000x4_S4x128_S500000x128_1_0_0_1_n_n none
      (concatenate S500000x4 1
        [⟨S500000x1, broadcastInDim S500000x1 ![0] bcast_S500000_S500000x1_0 (subf ts (broadcastInDim S500000 ![] bcast_S_S500000 (constant S_ .f32 cw)))⟩,
          ⟨S500000x1, broadcastInDim S500000x1 ![0] bcast_S500000_S500000x1_0 ch⟩,
          ⟨S500000x1, broadcastInDim S500000x1 ![0] bcast_S500000_S500000x1_0 x⟩,
          ⟨S500000x1, broadcastInDim S500000x1 ![0] bcast_S500000_S500000x1_0 y⟩]
        concatenates_S500000x1_S500000x1_S500000x1_S500000x1_S500000x4_d1)
      (transpose S4x128 [1, 0] W0 transposes_S128x4_S4x128_1_0))
    (broadcastInDim S500000x128 ![0, 1] bcast_S1x128_S500000x128_0_1 (broadcastInDim S1x128 ![1] bcast_S128_S1x128_1 b0))

/-- The reference's activation of a whole layer. -/
def act (z : FVec Ideal S500000x128 .f32) : FVec Ideal S500000x128 .f32 :=
  select (cmpf .oge z (broadcastInDim S500000x128 ![] bcast_S_S500000x128 (constant S_ .f32 0x00000000#32))) z
    (mulf (broadcastInDim S500000x128 ![] bcast_S_S500000x128 (constant S_ .f32 0x3DCCCCCD#32)) z)

/-- What the reference's second layer hands its activation. -/
def lay1 (z : FVec Ideal S500000x128 .f32) (W1 : FVec Ideal S128x128 .f32) (b1 : FVec Ideal S128 .f32) : FVec Ideal S500000x128 .f32 :=
  addf (Host.dotGeneral dot_S500000x128_S128x128_S500000x128_1_0_0_1_n_n none (act z) (transpose S128x128 [1, 0] W1 transposes_S128x128_S128x128_1_0))
    (broadcastInDim S500000x128 ![0, 1] bcast_S1x128_S500000x128_0_1 (broadcastInDim S1x128 ![1] bcast_S128_S1x128_1 b1))

/-- The values the reference adds: each event's time times the perceptron's last layer. -/
def vals (ts : FVec Ideal S500000 .f32) (z : FVec Ideal S500000x128 .f32) (W2 : FVec Ideal S1x128 .f32) (b2 : FVec Ideal S1 .f32) : FVec Ideal S500000 .f32 :=
  mulf ts (shapeCast _ (addf (Host.dotGeneral dot_S500000x128_S128x1_S500000x1_1_0_0_1_n_n none (act z) (transpose S128x1 [1, 0] W2 transposes_S1x128_S128x1_1_0))
    (broadcastInDim S500000x1 ![0, 1] bcast_S1x1_S500000x1_0_1 (broadcastInDim S1x1 ![1] bcast_S1_S1x1_1 b2))) shapeCasts_S500000x1_S500000)

/-- Adding values into the flat grid at the given indices, a negative index counted from the grid's end. -/
def put (g : FVec Ideal S2764800 .f32) (idx : IVec S500000 32) (v : FVec Ideal S500000 .f32) : FVec Ideal S2764800 .f32 :=
  Host.scatterAdd scatter_S2764800_S500000x1_S500000_n_0_0_1 g
    (broadcastInDim S500000x1 ![0] bcast_S500000_S500000x1_0
      (select (cmpi .slt idx (broadcastInDim S500000 ![] bcast_S_S500000 (constantI S_ 32 0#32)))
        (addi idx (broadcastInDim S500000 ![] bcast_S_S500000 (constantI S_ 32 2764800#32))) idx)) v

/-- The indices of one bin: each event's pixel, moved by the bin's place in the grid. -/
def at_ (k : BitVec 32) (pix : IVec S500000 32) : IVec S500000 32 :=
  addi pix (broadcastInDim S500000 ![] bcast_S_S500000 (constantI S_ 32 k))

variable (D : Data)

/-- The first layer, read at an event and a unit, the pixel coordinates being zero. -/
theorem lay0_apply (i : Fin 9) {ts ch x y : FVec Ideal S500000 .f32} {W0 : FVec Ideal S128x4 .f32} {b0 : FVec Ideal S128 .f32}
    (hts : ∀ n, ts (ix1 n) = ((D.ts n : ℝ) : EReal)) (hch : ∀ n, ch (ix1 n) = ((D.pol n : ℝ) : EReal))
    (hx : ∀ n, x (ix1 n) = 0) (hy : ∀ n, y (ix1 n) = 0) (hwt : ∀ j, W0 (ix2 j 0) = ((D.wt j : ℝ) : EReal))
    (hwp : ∀ j, W0 (ix2 j 1) = ((D.wp j : ℝ) : EReal)) (hb : ∀ j, b0 (ix1 j) = ((D.b0 j : ℝ) : EReal))
    (n : Fin 500000) (j : Fin 128) :
    lay0 (offsets i) ts ch x y W0 b0 (ix2 n j) = ((D.pre0 (word (offsets i)) n j : ℝ) : EReal) := by
  pointwise [lay0]
  rw [Fin.sum_univ_four]
  simp only [Fin.val_zero, Fin.val_one, Fin.val_two, Fin.reduceFinMk]
  norm_num
  rw [hx, hy, hts, hch, hb, hwt, hwp, ofBits_offsets, zero_mul, zero_mul, add_zero, add_zero]
  unfold Data.pre0
  push_cast
  rfl

/-- The activation at an element that is a real number. -/
theorem act_apply {z : FVec Ideal S500000x128 .f32} {n : Fin 500000} {j : Fin 128} {a : ℝ} (h : z (ix2 n j) = ((a : ℝ) : EReal)) :
    act z (ix2 n j) = ((leak a : ℝ) : EReal) := by
  pointwise [act]
  rw [h]
  exact (congrArg (fun s => if (0 : EReal) ≤ (a : EReal) then (a : EReal) else s * (a : EReal)) ofBits_slope).trans (leak_coe a)

/-- The second layer, read at an event and a unit. -/
theorem lay1_apply (c : ℝ) {z : FVec Ideal S500000x128 .f32} {W1 : FVec Ideal S128x128 .f32} {b1 : FVec Ideal S128 .f32}
    (hz : ∀ n j, z (ix2 n j) = ((D.pre0 c n j : ℝ) : EReal)) (hw : ∀ k j, W1 (ix2 k j) = ((D.w1 k j : ℝ) : EReal))
    (hb : ∀ k, b1 (ix1 k) = ((D.b1 k : ℝ) : EReal)) (n : Fin 500000) (k : Fin 128) :
    lay1 z W1 b1 (ix2 n k) = ((D.pre1 c n k : ℝ) : EReal) := by
  pointwise [lay1]
  rw [Finset.sum_congr rfl fun j _ => show act z (ix2 n j) * W1 (ix2 k j) = ((leak (D.pre0 c n j) * D.w1 k j : ℝ) : EReal) by
    rw [act_apply (hz n j), hw, EReal.coe_mul], sum_coe, hb, ← EReal.coe_add]
  rfl

/-- The values, read at an event. -/
theorem vals_apply (c : ℝ) {ts : FVec Ideal S500000 .f32} {z : FVec Ideal S500000x128 .f32} {W2 : FVec Ideal S1x128 .f32} {b2 : FVec Ideal S1 .f32}
    (hts : ∀ n, ts (ix1 n) = ((D.ts n : ℝ) : EReal)) (hz : ∀ n k, z (ix2 n k) = ((D.pre1 c n k : ℝ) : EReal))
    (hw : ∀ k, W2 (ix2 0 k) = ((D.w2 k : ℝ) : EReal)) (hb : b2 (ix1 0) = ((D.b2 : ℝ) : EReal)) (n : Fin 500000) :
    vals ts z W2 b2 (ix1 n) = ((D.ts n * D.mlp c n : ℝ) : EReal) := by
  pointwise [vals]
  rw [Finset.sum_congr rfl fun k _ => show act z (ix2 n k) * W2 (ix2 0 k) = ((leak (D.pre1 c n k) * D.w2 k : ℝ) : EReal) by
    rw [act_apply (hz n k), hw, EReal.coe_mul], sum_coe, hb, hts, ← EReal.coe_add, ← EReal.coe_mul]
  rfl

end Cert.Voxel.Ref

end
-- ==== Proof.RefPut.lean ====
/-
  The reference's addition into its flat grid, read at one cell, when every value goes to one and the same cell.
-/
module

public import proofs.«01_k».proof.Proof.RefTerm
public import Idealize.ShloMosaic.Lib.StableHlo.Predicate

@[expose] public section

set_option maxRecDepth 16384

noncomputable section

namespace Cert.Voxel.Ref

open Cert.ReferenceIdeal Cert.ReferenceIdeal.Gen Idealize.ShloMosaic

/-- Where a value lands, in a scatter of `N` scalars into `M` cells by one index word each: at the cell its word, read
    signed, names. -/
theorem lands {M N : Nat} (d : ScatterDims ⟨1, ![M]⟩ ⟨2, ![N, 1]⟩ ⟨1, ![N]⟩) (hw : d.insertedWindowDims = [0])
    (hs : d.scatterDimsToOperandDims = [0]) (hv : d.indexVectorDim = 1) (idx : IVec ⟨2, ![N, 1]⟩ 32) (n : Fin N) (q : Fin M) :
    d.resultIdx? (ix1 n) idx = some (ix1 q) ↔ (idx (ix2 n (0 : Fin 1))).toInt = (q.val : Int) := by
  have hm : (0 : Fin 1) ∈ d.scatterDimsToOperandDims := by simp [hs]
  have win : d.window (ix1 n) (0 : Fin 1) = 0 := by
    unfold ScatterDims.window
    refine dif_neg fun h => ?_
    have := of_decide_eq_true (List.mem_filter.1 h).2
    exact this (by simp [hw])
  have place : d.siIdx (ix1 n) ⟨d.scatterDimsToOperandDims.idxOf 0, List.idxOf_lt_length_iff.2 hm⟩ = ix2 n (0 : Fin 1) := by
    funext b
    apply Fin.ext
    match b with
    | ⟨0, _⟩ =>
      unfold ScatterDims.siIdx
      rw [dif_neg (by rw [hv]; exact Nat.zero_ne_one)]
      unfold ScatterDims.siCoord
      simp only [Fin.val_cast]
      have e : ∀ z : Fin 1, ((ix1 n : (⟨1, ![N]⟩ : Shape).Idx) z).val = n.val := fun z => by
        rw [Subsingleton.elim z 0]; rfl
      exact e _
    | ⟨1, _⟩ =>
      unfold ScatterDims.siIdx
      rw [dif_pos (by rw [hv])]
      show List.idxOf (0 : Fin 1) d.scatterDimsToOperandDims = 0
      simp [hs]
  have start : d.start (ix1 n) idx (0 : Fin 1) = (idx (ix2 n (0 : Fin 1))).toInt := by
    unfold ScatterDims.start
    rw [dif_pos hm, place]
  have hq := q.isLt
  unfold ScatterDims.resultIdx?
  split
  · next h =>
    have h0 := h (0 : Fin 1)
    rw [start, win] at h0
    rw [Option.some.injEq]
    constructor
    · intro e
      have e0 := congrArg Fin.val (congrFun e (0 : Fin 1))
      change (d.start (ix1 n) idx (0 : Fin 1) + (d.window (ix1 n) (0 : Fin 1) : Int)).toNat = q.val at e0
      rw [start, win] at e0
      omega
    · intro e
      funext a
      apply Fin.ext
      match a with
      | ⟨0, _⟩ =>
        show (d.start (ix1 n) idx (0 : Fin 1) + (d.window (ix1 n) (0 : Fin 1) : Int)).toNat = q.val
        rw [start, win]
        omega
  · next h =>
    refine ⟨fun e => (by cases e), fun e => (h fun a => ?_).elim⟩
    match a with
    | ⟨0, _⟩ =>
      show 0 ≤ d.start (ix1 n) idx (0 : Fin 1) + (d.window (ix1 n) (0 : Fin 1) : Int)
        ∧ d.start (ix1 n) idx (0 : Fin 1) + (d.window (ix1 n) (0 : Fin 1) : Int) < (M : Int)
      rw [start, win]
      omega

/-- The indices of the vectors of `N` elements are the numbers below `N`. -/
def ixEquiv (N : Nat) : Fin N ≃ (⟨1, ![N]⟩ : Shape).Idx where
  toFun n := ix1 n
  invFun j := j 0
  left_inv _ := rfl
  right_inv j := (eq_ix1 j).symm

/-- Adding values all of whose indices are the word `k`: cell `k` grows by their sum, every other stays. -/
theorem put_apply (g : FVec Ideal S2764800 .f32) (k : Nat) (hk : k < 2764800) {idx : IVec S500000 32} (hi : ∀ n, idx (ix1 n) = BitVec.ofNat 32 k)
    {v : FVec Ideal S500000 .f32} {f : Fin 500000 → ℝ} (hv : ∀ n, v (ix1 n) = ((f n : ℝ) : EReal)) (q : Fin 2764800) :
    put g idx v (ix1 q) = g (ix1 q) + if q.val = k then ((∑ n, f n : ℝ) : EReal) else 0 := by
  have hint : (BitVec.ofNat 32 k).toInt = (k : Int) := StableHlo.Predicate.toInt_ofNat_small k (by omega)
  have hidx : ∀ n : Fin 500000, (broadcastInDim S500000x1 ![0] bcast_S500000_S500000x1_0
      (select (cmpi .slt idx (broadcastInDim S500000 ![] bcast_S_S500000 (constantI S_ 32 0#32)))
        (addi idx (broadcastInDim S500000 ![] bcast_S_S500000 (constantI S_ 32 2764800#32))) idx)) (ix2 n (0 : Fin 1)) = BitVec.ofNat 32 k := fun n => by
    pointwise
    rw [hi]
    have hs : IntOp.cmpi .slt (BitVec.ofNat 32 k) 0#32 = 0#1 := by
      show BitVec.ofBool ((BitVec.ofNat 32 k).slt 0#32) = 0#1
      rw [BitVec.slt_eq_decide, hint, decide_eq_false (by show ¬ ((k : Int) < 0); omega)]
      rfl
    rw [hs]
    rfl
  show g (ix1 q) + ∑ j ∈ Finset.univ.filter (fun j => ScatterDims.resultIdx? scatter_S2764800_S500000x1_S500000_n_0_0_1 j _ = some (ix1 q)), v j = _
  refine congrArg (g (ix1 q) + ·) ?_
  have hset : ∀ j : S500000.Idx, ScatterDims.resultIdx? scatter_S2764800_S500000x1_S500000_n_0_0_1 j (broadcastInDim S500000x1 ![0] bcast_S500000_S500000x1_0
      (select (cmpi .slt idx (broadcastInDim S500000 ![] bcast_S_S500000 (constantI S_ 32 0#32)))
        (addi idx (broadcastInDim S500000 ![] bcast_S_S500000 (constantI S_ 32 2764800#32))) idx)) = some (ix1 q) ↔ q.val = k := fun j => by
    obtain ⟨n, rfl⟩ := (ixEquiv 500000).surjective j
    refine (lands _ rfl rfl rfl _ n q).trans ?_
    rw [hidx, hint]
    omega
  rw [Finset.filter_congr fun j _ => hset j]
  by_cases h : q.val = k
  · rw [if_pos h, Finset.filter_true_of_mem fun _ _ => h, ← sum_coe]
    exact (Equiv.sum_comp (ixEquiv 500000) v).symm.trans (Finset.sum_congr rfl fun n _ => hv n)
  · rw [if_neg h, Finset.filter_false_of_mem fun _ _ => h, Finset.sum_empty]

end Cert.Voxel.Ref

end
-- ==== Proof.Args.lean ====
/-
  The real data of the mathematics, read off a run's arguments, and the arguments' elements as those real numbers.
-/
module

public import proofs.«01_k».proof.Proof.Spec
public import proofs.«01_k».proof.Proof.PreFacts

@[expose] public section

set_option maxRecDepth 16384

noncomputable section

namespace Cert.Voxel

open Idealize.ShloMosaic

variable (ev : FVec Ideal ⟨2, ![500000, 4]⟩ .f32) (W0 : FVec Ideal ⟨2, ![128, 4]⟩ .f32) (b0 : FVec Ideal ⟨1, ![128]⟩ .f32)
  (W1 : FVec Ideal ⟨2, ![128, 128]⟩ .f32) (b1 : FVec Ideal ⟨1, ![128]⟩ .f32) (W2 : FVec Ideal ⟨2, ![1, 128]⟩ .f32)
  (b2 : FVec Ideal ⟨1, ![1]⟩ .f32)

/-- The first event's time. -/
def first : ℝ := (ev (ix2 0 0) : EReal).toReal

/-- The last event's time. -/
def last : ℝ := (ev (ix2 499999 0) : EReal).toReal

/-- The span of the events' times, one where they span nothing. -/
def span : ℝ := if last ev - first ev = 0 then 1 else last ev - first ev

/-- The span is never zero. -/
theorem span_ne : span ev ≠ 0 := by
  unfold span
  split
  · exact one_ne_zero
  · assumption

/-- The polarity number of an event: what the array holds, minus one for zero. -/
def polarity (n : Fin 500000) : ℝ := if (ev (ix2 n 3) : EReal).toReal = 0 then word 0xBF800000#32 else (ev (ix2 n 3) : EReal).toReal

/-- The real data of the arguments. -/
def dataOf : Data where
  ts n := ((ev (ix2 n 0) : EReal).toReal - first ev) * (1 / span ev)
  pol n := polarity ev n
  wt j := (W0 (ix2 j 0) : EReal).toReal
  wp j := (W0 (ix2 j 1) : EReal).toReal
  b0 j := (b0 (ix1 j) : EReal).toReal
  w1 k j := (W1 (ix2 k j) : EReal).toReal
  b1 k := (b1 (ix1 k) : EReal).toReal
  w2 k := (W2 (ix2 0 k) : EReal).toReal
  b2 := (b2 (ix1 0) : EReal).toReal

/-- A number that is real is the real number it is. -/
theorem coe_of_real {x : EReal} (h : ∃ r : ℝ, x = (r : EReal)) : x = ((x.toReal : ℝ) : EReal) := by
  obtain ⟨r, rfl⟩ := h
  rw [EReal.toReal_coe]

variable {ev W0 b0 W1 b1 W2 b2}

/-- The span, as the programs compute it from the two times. -/
theorem span_coe (h : ∀ i, ∃ r : ℝ, ev i = (r : EReal)) :
    (if ev (ix2 499999 0) - ev (ix2 0 0) = (0 : EReal) then (1 : EReal) else ev (ix2 499999 0) - ev (ix2 0 0)) = ((span ev : ℝ) : EReal) := by
  have e : (ev (ix2 499999 0) - ev (ix2 0 0) : EReal) = ((last ev - first ev : ℝ) : EReal) := by
    rw [EReal.coe_sub]
    exact congrArg₂ (· - ·) (coe_of_real (h _)) (coe_of_real (h _))
  rw [e]
  unfold span
  by_cases h0 : last ev - first ev = 0
  · rw [if_pos h0, if_pos (by rw [h0]; rfl)]; rfl
  · rw [if_neg h0, if_neg (by exact_mod_cast h0)]

/-- The polarity, as the programs choose it. -/
theorem polarity_coe (h : ∀ i, ∃ r : ℝ, ev i = (r : EReal)) (n : Fin 500000) :
    (if ev (ix2 n 3) = (0 : EReal) then Ideal.ofBits .f32 0xBF800000#32 else ev (ix2 n 3)) = ((polarity ev n : ℝ) : EReal) := by
  obtain ⟨r, hr⟩ := h (ix2 n 3)
  unfold polarity
  rw [hr, EReal.toReal_coe]
  by_cases h0 : r = 0
  · rw [if_pos h0, if_pos (by rw [h0]; rfl), ofBits_neg]
  · rw [if_neg h0, if_neg (by exact_mod_cast h0)]

/-- The scaled time, as a product with the span's reciprocal. -/
theorem ts_coe (h : ∀ i, ∃ r : ℝ, ev i = (r : EReal)) (n : Fin 500000) :
    (ev (ix2 n 0) - ev (ix2 0 0) : EReal) * ((1 / span ev : ℝ) : EReal) = (((dataOf ev W0 b0 W1 b1 W2 b2).ts n : ℝ) : EReal) := by
  rw [coe_of_real (h (ix2 n 0)), coe_of_real (h (ix2 0 0)), ← EReal.coe_sub, ← EReal.coe_mul]
  rfl

end Cert.Voxel

end
-- ==== Proof.RefValue.lean ====
/-
  What the reference returns, element by element, under the precondition.
-/
module

public import proofs.«01_k».proof.Proof.RefPut
public import proofs.«01_k».proof.Proof.Args
public import proofs.«01_k».proof.Proof.Gen.ReferenceIdeal.Run

@[expose] public section

set_option maxRecDepth 16384

noncomputable section

namespace Cert.Voxel.Ref

open Cert.ReferenceIdeal Cert.ReferenceIdeal.Gen Cert.ReferenceIdeal.Value Idealize.ShloMosaic Idealize.ShloMosaic.TcCoe Idealize.SL.Sem

/-- The seven arguments of a valuation. -/
def a0 (V : Valuation τ sig (Elt Ideal)) : FVec Ideal S500000x4 .f32 := V (Proc.devRef .tc main_arg0)
def a1 (V : Valuation τ sig (Elt Ideal)) : FVec Ideal S128x4 .f32 := V (Proc.devRef .tc main_arg1)
def a2 (V : Valuation τ sig (Elt Ideal)) : FVec Ideal S128 .f32 := V (Proc.devRef .tc main_arg2)
def a3 (V : Valuation τ sig (Elt Ideal)) : FVec Ideal S128x128 .f32 := V (Proc.devRef .tc main_arg3)
def a4 (V : Valuation τ sig (Elt Ideal)) : FVec Ideal S128 .f32 := V (Proc.devRef .tc main_arg4)
def a5 (V : Valuation τ sig (Elt Ideal)) : FVec Ideal S1x128 .f32 := V (Proc.devRef .tc main_arg5)
def a6 (V : Valuation τ sig (Elt Ideal)) : FVec Ideal S1 .f32 := V (Proc.devRef .tc main_arg6)

/-- The arguments of a valuation satisfy what the precondition grants. -/
def Ok (V : Valuation τ sig (Elt Ideal)) : Prop := Tame (a0 V) (a1 V) (a2 V) (a3 V) (a4 V) (a5 V) (a6 V)

/-- The real data of a valuation's arguments. -/
def data (V : Valuation τ sig (Elt Ideal)) : Data := dataOf (a0 V) (a1 V) (a2 V) (a3 V) (a4 V) (a5 V) (a6 V)

/-- The first layer at the offset whose word is `cw`, from the arguments. -/
def z0 (V : Valuation τ sig (Elt Ideal)) (cw : BitVec 32) : FVec Ideal S500000x128 .f32 :=
  lay0 cw (res_main_v12 V) (res_main_v25 V) (res_main_v31 V) (res_main_v34 V) (a1 V) (a2 V)

/-- The second layer, likewise. -/
def z1 (V : Valuation τ sig (Elt Ideal)) (cw : BitVec 32) : FVec Ideal S500000x128 .f32 := lay1 (z0 V cw) (a3 V) (a4 V)

/-- Adding one bin's values into the grid: the offset's word and the bin's place. -/
def bin (V : Valuation τ sig (Elt Ideal)) (cw k : BitVec 32) (g : FVec Ideal S2764800 .f32) : FVec Ideal S2764800 .f32 :=
  put g (at_ k (res_main_v28 V)) (vals (res_main_v12 V) (z1 V cw) (a5 V) (a6 V))

/-- The grid after the first five bins. -/
theorem grid5 (V : Valuation τ sig (Elt Ideal)) :
    res_main_v250 V = bin V 0x3F000000#32 1228800#32 (bin V 0x3EC00000#32 921600#32 (bin V 0x3E800000#32 614400#32
      (bin V 0x3E000000#32 307200#32 (bin V 0x00000000#32 0#32 (broadcastInDim S2764800 ![] bcast_S_S2764800 (constant S_ .f32 0x00000000#32)))))) := rfl

/-- The grid after all nine, given its first five. -/
def grid9 (V : Valuation τ sig (Elt Ideal)) : FVec Ideal S2764800 .f32 :=
  bin V 0x3F800000#32 2457600#32 (bin V 0x3F600000#32 2150400#32 (bin V 0x3F400000#32 1843200#32 (bin V 0x3F200000#32 1536000#32 (res_main_v250 V))))

variable {V : Valuation τ sig (Elt Ideal)} (h : Ok V)
include h

/-- The scaled times. -/
theorem ts_apply (n : Fin 500000) : res_main_v12 V (ix1 n) = (((data V).ts n : ℝ) : EReal) := by
  have e : res_main_v12 V (ix1 n) = Ideal.div (a0 V (ix2 n 0) - a0 V (ix2 0 0))
      (if a0 V (ix2 499999 0) - a0 V (ix2 0 0) = (0 : EReal) then (1 : EReal) else a0 V (ix2 499999 0) - a0 V (ix2 0 0)) := by
    pointwise [res_main_v12, res_main_v4, res_main_v3, a0]
  rw [e, span_coe h.h_ev, Ideal.div_coe (span_ne _)]
  exact ts_coe h.h_ev n

/-- The polarities. -/
theorem pol_apply (n : Fin 500000) : res_main_v25 V (ix1 n) = (((data V).pol n : ℝ) : EReal) := by
  refine Eq.trans ?_ (polarity_coe h.h_ev n)
  pointwise [res_main_v25, res_main_v22, a0]

omit h in
/-- A number in [0, 1), rounded down and made an integer, is zero. -/
theorem whole_zero (x : EReal) (h0 : 0 ≤ x) (h1 : x < 1) : Ideal.fptosi 32 (Ideal.liftRound Int.floor x) = 0#32 := by
  induction x using EReal.rec with
  | bot => simp at h0
  | top => simp at h1
  | coe r =>
    have hf : ⌊r⌋ = 0 := Int.floor_eq_zero_iff.2 ⟨by exact_mod_cast h0, by exact_mod_cast h1⟩
    show Ideal.fptosi 32 (((⌊r⌋ : ℤ) : ℝ) : EReal) = 0#32
    rw [hf, Ideal.fptosi, Ideal.toIntClamped_coe]
    norm_num

/-- The pixel columns are all zero. -/
theorem col_apply (n : Fin 500000) : res_main_v16 V (ix1 n) = 0#32 := by
  refine Eq.trans ?_ (whole_zero _ (h.h_x n).1 (h.h_x n).2)
  pointwise [res_main_v16, a0]
  rfl

/-- The pixel rows are all zero. -/
theorem row_apply (n : Fin 500000) : res_main_v20 V (ix1 n) = 0#32 := by
  refine Eq.trans ?_ (whole_zero _ (h.h_y n).1 (h.h_y n).2)
  pointwise [res_main_v20, a0]
  rfl

/-- The third feature is zero. -/
theorem x_apply (n : Fin 500000) : res_main_v31 V (ix1 n) = (0 : EReal) := by
  have e := col_apply h n
  pointwise [res_main_v31]
  rw [e]
  have z : (FloatOps.sitofp (F := Ideal) .f32 (0#32) : EReal) = 0 := by
    show (((0#32).toInt : ℝ) : EReal) = 0
    simp
  rw [z, Ideal.div, if_neg ofBits_640_ne, zero_mul]

/-- The fourth feature is zero. -/
theorem y_apply (n : Fin 500000) : res_main_v34 V (ix1 n) = (0 : EReal) := by
  have e := row_apply h n
  pointwise [res_main_v34]
  rw [e]
  have z : (FloatOps.sitofp (F := Ideal) .f32 (0#32) : EReal) = 0 := by
    show (((0#32).toInt : ℝ) : EReal) = 0
    simp
  rw [z, Ideal.div, if_neg ofBits_480_ne, zero_mul]

/-- The flat pixel indices are all zero, so a bin's indices are all the bin's place. -/
theorem at_apply (k : Nat) (n : Fin 500000) : at_ (BitVec.ofNat 32 k) (res_main_v28 V) (ix1 n) = BitVec.ofNat 32 k := by
  have e := col_apply h n
  have e' := row_apply h n
  pointwise [at_, res_main_v28]
  rw [e, e']
  show (0#32 + 640#32 * 0#32) + BitVec.ofNat 32 k = BitVec.ofNat 32 k
  simp

/-- One bin's values. -/
theorem vals_at (i : Fin 9) (n : Fin 500000) :
    vals (res_main_v12 V) (z1 V (offsets i)) (a5 V) (a6 V) (ix1 n) = (((data V).ts n * (data V).mlp (word (offsets i)) n : ℝ) : EReal) :=
  vals_apply (data V) (word (offsets i)) (ts_apply h)
    (lay1_apply (data V) (word (offsets i))
      (lay0_apply (data V) i (ts_apply h) (pol_apply h) (x_apply h) (y_apply h) (fun j => coe_of_real (h.h_wt j)) (fun j => coe_of_real (h.h_wp j))
        fun j => coe_of_real (h.h_b0 _))
      (fun k j => coe_of_real (h.h_W1 _)) fun k => coe_of_real (h.h_b1 _))
    (fun k => coe_of_real (h.h_W2 _)) (coe_of_real (h.h_b2 _)) n

/-- One bin added: the cell at its place grows by the bin's total. -/
theorem bin_apply (i : Fin 9) (k : Nat) (hk : k < 2764800) (g : FVec Ideal S2764800 .f32) (q : Fin 2764800) :
    bin V (offsets i) (BitVec.ofNat 32 k) g (ix1 q) = g (ix1 q) + if q.val = k then (((data V).total (word (offsets i)) : ℝ) : EReal) else 0 :=
  put_apply g k hk (at_apply h k) (vals_at h i) q

omit h in
/-- The grid after all nine bins, bin by bin. -/
theorem grid9_eq : grid9 V = bin V (offsets 8) (BitVec.ofNat 32 2457600) (bin V (offsets 7) (BitVec.ofNat 32 2150400)
    (bin V (offsets 6) (BitVec.ofNat 32 1843200) (bin V (offsets 5) (BitVec.ofNat 32 1536000) (bin V (offsets 4) (BitVec.ofNat 32 1228800)
    (bin V (offsets 3) (BitVec.ofNat 32 921600) (bin V (offsets 2) (BitVec.ofNat 32 614400) (bin V (offsets 1) (BitVec.ofNat 32 307200)
    (bin V (offsets 0) (BitVec.ofNat 32 0) (broadcastInDim S2764800 ![] bcast_S_S2764800 (constant S_ .f32 0x00000000#32)))))))))) := by
  unfold grid9
  rw [grid5]
  rfl

/-- The whole grid: each bin's total at its place, zero elsewhere. -/
theorem grid9_apply (i : Fin 9) (r : Fin 480) (c : Fin 640) (q : Fin 2764800) (hq : q.val = i.val * 307200 + r.val * 640 + c.val) :
    grid9 V (ix1 q) = (data V).out i r c := by
  have hz : (broadcastInDim S2764800 ![] bcast_S_S2764800 (constant (F := Ideal) S_ .f32 0x00000000#32)) (ix1 q) = (0 : EReal) := by pointwise
  rw [grid9_eq, bin_apply h 8 2457600 (by norm_num), bin_apply h 7 2150400 (by norm_num), bin_apply h 6 1843200 (by norm_num), bin_apply h 5 1536000 (by norm_num),
    bin_apply h 4 1228800 (by norm_num), bin_apply h 3 921600 (by norm_num), bin_apply h 2 614400 (by norm_num), bin_apply h 1 307200 (by norm_num),
    bin_apply h 0 0 (by norm_num), hz]
  unfold Data.out
  have hr := r.isLt
  have hc := c.isLt
  by_cases hrc : r.val = 0 ∧ c.val = 0
  · rw [if_pos hrc]
    have hq' : q.val = i.val * 307200 := by rw [hq, hrc.1, hrc.2, Nat.zero_mul, Nat.add_zero]
    rw [hq']
    fin_cases i <;> simp
  · rw [if_neg hrc, if_neg (by omega), if_neg (by omega), if_neg (by omega), if_neg (by omega), if_neg (by omega), if_neg (by omega),
      if_neg (by omega), if_neg (by omega), if_neg (by omega)]
    simp

end Cert.Voxel.Ref

end
-- ==== Proof.RefRun.lean ====
/-
  The reference's run: where the precondition holds, it ends with its result at the mathematics' array and its arguments
  unchanged.
-/
module

public import proofs.«01_k».proof.Proof.RefValue

@[expose] public section

set_option maxRecDepth 16384

noncomputable section

namespace Cert.Voxel.Ref

open Cert.ReferenceIdeal Cert.ReferenceIdeal.Gen Cert.ReferenceIdeal.Value Idealize.ShloMosaic Idealize.ShloMosaic.TcCoe Idealize.SL.Sem Idealize.ShloMosaic.StableHlo

/-- The flat grid, given its four axes back, read at a bin's pixel. -/
theorem shaped_apply {V : Valuation τ sig (Elt Ideal)} (h : Ok V) (y : S1x9x480x640.Idx) :
    (shapeCast S1x9x480x640 (grid9 V) shapeCasts_S2764800_S1x9x480x640) y = (data V).out (y 1) (y 2) (y 3) := by
  idx_vars y
  pointwise
  exact grid9_apply h y1 y2 y3 _ rfl

/-- Every run of the reference ends with its result at the mathematics' array, and its arguments unchanged. -/
theorem run_value (m : (ℓ : Loc nD τ sig) → Buf (Elt Ideal) ℓ) (ρ : Dev nD → PrngReg) (h : ∀ c, Ok (launchContents m c)) :
    θ_run defs (onTc (τ := τ) (main (F := Ideal))) ⟨m, fun _ => 0, ρ⟩ fun r => ∀ c : Dev nD,
      (r.2.mem ((c.tc : Thread nD τ).loc main_v423) : FVec Ideal S1x9x480x640 .f32) = (fun y => (data (launchContents m c)).out (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r hr c => ⟨(hr c).1.trans (funext fun y => shaped_apply (h c) y), (hr c).2⟩)
    (Cert.ReferenceIdeal.Value.run (F := Ideal) m ρ)

end Cert.Voxel.Ref

end
-- ==== Proof.KerBlock.lean ====
/-
  What the first kernel computes at one block of 4000 events, element by element: nine rows, one per time offset, of the
  hidden units weighted by the events' times and summed over the block, a tenth row of the times' sum, six zero rows.
-/
module

public import proofs.«01_k».proof.Proof.Spec
public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.Voxel.Ker

open Cert.KernelIdeal Cert.KernelIdeal.Gen Idealize.ShloMosaic

/-- What a layer hands its activation, the first layer at the offset whose word is `cw`. -/
def lay0 (cw : BitVec 32) (w : FVec Ideal S1x128 .f32) (z : FVec Ideal S4000x128 .f32) : FVec Ideal S4000x128 .f32 :=
  subf z (broadcastTo S4000x128 (mulf (broadcast S1x128 (Scalar.ofBits (F := Ideal) .f32 cw)) w) broadcasts_S1x128_S4000x128)

/-- The kernel's activation of a whole layer. -/
def act (z : FVec Ideal S4000x128 .f32) : FVec Ideal S4000x128 .f32 :=
  select (cmpf .oge z (broadcast S4000x128 (Scalar.ofBits (F := Ideal) .f32 0x00000000#32))) z
    (mulf (broadcast S4000x128 (Scalar.ofBits (F := Ideal) .f32 0x3DCCCCCD#32)) z)

/-- The second layer. -/
def lay1 (z : FVec Ideal S4000x128 .f32) (b1 : FVec Ideal S1x128 .f32) (w1 : FVec Ideal S128x128 .f32) : FVec Ideal S4000x128 .f32 :=
  addf (matmul dot_S4000x128_S128x128_S4000x128_1_0_0_1_n_n none (act z) w1 (constant S4000x128 .f32 0x00000000#32))
    (broadcastTo S4000x128 b1 broadcasts_S1x128_S4000x128)

/-- One offset's row: the hidden units weighted by the times and summed over the block. -/
def row (cw : BitVec 32) (ts : FVec Ideal S4000x1 .f32) (w : FVec Ideal S1x128 .f32) (z : FVec Ideal S4000x128 .f32) (b1 : FVec Ideal S1x128 .f32)
    (w1 : FVec Ideal S128x128 .f32) : FVec Ideal S1x128 .f32 :=
  shapeCast S1x128 (multiReduction .add [0] S128 (mulf (broadcastTo S4000x128 ts broadcasts_S4000x1_S4000x128) (act (lay1 (lay0 cw w z) b1 w1)))
    0x00000000#32 reduces_S4000x128_S128 (.inl rfl) rfl) shapeCasts_S128_S1x128

/-- The row of the times' sum. -/
def tsRow (ts : FVec Ideal S4000x1 .f32) : FVec Ideal S1x128 .f32 :=
  broadcast S1x128 (extractAt ![0, 0, 0] (shapeCast S1x1x1 (multiReduction .add [1, 2] S1 (shapeCast S1x4000x1 ts shapeCasts_S4000x1_S1x4000x1)
    0x00000000#32 reduces_S1x4000x1_S1 (.inl rfl) rfl) shapeCasts_S1_S1x1x1) inpos_S1x1x1_p0_0_0)

/-- The block's sixteen rows. -/
def rows (ts : FVec Ideal S4000x1 .f32) (w : FVec Ideal S1x128 .f32) (z : FVec Ideal S4000x128 .f32) (b1 : FVec Ideal S1x128 .f32)
    (w1 : FVec Ideal S128x128 .f32) : FVec Ideal S16x128 .f32 :=
  concatenate S16x128 0 [⟨S1x128, row (offsets 0) ts w z b1 w1⟩, ⟨S1x128, row (offsets 1) ts w z b1 w1⟩, ⟨S1x128, row (offsets 2) ts w z b1 w1⟩,
    ⟨S1x128, row (offsets 3) ts w z b1 w1⟩, ⟨S1x128, row (offsets 4) ts w z b1 w1⟩, ⟨S1x128, row (offsets 5) ts w z b1 w1⟩,
    ⟨S1x128, row (offsets 6) ts w z b1 w1⟩, ⟨S1x128, row (offsets 7) ts w z b1 w1⟩, ⟨S1x128, row (offsets 8) ts w z b1 w1⟩,
    ⟨S1x128, tsRow ts⟩, ⟨S6x128, broadcast S6x128 (Scalar.ofBits (F := Ideal) .f32 0x00000000#32)⟩]
    concatenates_S1x128_S1x128_S1x128_S1x128_S1x128_S1x128_S1x128_S1x128_S1x128_S1x128_S6x128_S16x128_d0

variable (D : Data) (e : Fin 4000 → Fin 500000)

/-- The block's rows as real numbers, `e` naming the block's events among all. -/
def part (q : Fin 16) (k : Fin 128) : ℝ :=
  if h : q.val < 9 then ∑ n, D.ts (e n) * leak (D.pre1 (word (offsets ⟨q.val, h⟩)) (e n) k) else if q.val = 9 then ∑ n, D.ts (e n) else 0

/-- The first layer, read at an event and a unit. -/
theorem lay0_apply (i : Fin 9) {w : FVec Ideal S1x128 .f32} {z : FVec Ideal S4000x128 .f32} (hw : ∀ j, w (ix2 0 j) = ((D.wt j : ℝ) : EReal))
    (hz : ∀ n j, z (ix2 n j) = ((D.ts (e n) * D.wt j + D.pol (e n) * D.wp j + D.b0 j : ℝ) : EReal)) (n : Fin 4000) (j : Fin 128) :
    lay0 (offsets i) w z (ix2 n j) = ((D.pre0 (word (offsets i)) (e n) j : ℝ) : EReal) := by
  pointwise [lay0]
  rw [hz, hw, ← D.pre0_eq, EReal.coe_sub, EReal.coe_mul]
  exact congrArg (fun s => _ - s * _) (ofBits_offsets i)

/-- The activation at an element that is a real number. -/
theorem act_apply {z : FVec Ideal S4000x128 .f32} {n : Fin 4000} {j : Fin 128} {a : ℝ} (h : z (ix2 n j) = ((a : ℝ) : EReal)) :
    act z (ix2 n j) = ((leak a : ℝ) : EReal) := by
  pointwise [act]
  rw [h]
  exact (congrArg (fun s => if (0 : EReal) ≤ (a : EReal) then (a : EReal) else s * (a : EReal)) ofBits_slope).trans (leak_coe a)

/-- The second layer, read at an event and a unit. -/
theorem lay1_apply (c : ℝ) {z : FVec Ideal S4000x128 .f32} {b1 : FVec Ideal S1x128 .f32} {w1 : FVec Ideal S128x128 .f32}
    (hz : ∀ n j, z (ix2 n j) = ((D.pre0 c (e n) j : ℝ) : EReal)) (hw : ∀ j k, w1 (ix2 j k) = ((D.w1 k j : ℝ) : EReal))
    (hb : ∀ k, b1 (ix2 0 k) = ((D.b1 k : ℝ) : EReal)) (n : Fin 4000) (k : Fin 128) :
    lay1 z b1 w1 (ix2 n k) = ((D.pre1 c (e n) k : ℝ) : EReal) := by
  pointwise [lay1]
  rw [Finset.sum_congr rfl fun j _ => show act z (ix2 n j) * w1 (ix2 j k) = ((leak (D.pre0 c (e n) j) * D.w1 k j : ℝ) : EReal) by
    rw [act_apply (hz n j), hw, EReal.coe_mul], sum_coe, hb, ← EReal.coe_add]
  rfl

variable {ts : FVec Ideal S4000x1 .f32} {w : FVec Ideal S1x128 .f32} {z : FVec Ideal S4000x128 .f32} {b1 : FVec Ideal S1x128 .f32} {w1 : FVec Ideal S128x128 .f32}
  (hts : ∀ n, ts (ix2 n 0) = ((D.ts (e n) : ℝ) : EReal)) (hwt : ∀ j, w (ix2 0 j) = ((D.wt j : ℝ) : EReal))
  (hz : ∀ n j, z (ix2 n j) = ((D.ts (e n) * D.wt j + D.pol (e n) * D.wp j + D.b0 j : ℝ) : EReal))
  (hb : ∀ k, b1 (ix2 0 k) = ((D.b1 k : ℝ) : EReal)) (hw : ∀ j k, w1 (ix2 j k) = ((D.w1 k j : ℝ) : EReal))

include hts hwt hz hb hw in
/-- One offset's row, read at a unit. -/
theorem row_apply (i : Fin 9) (k : Fin 128) :
    row (offsets i) ts w z b1 w1 (ix2 0 k) = ((∑ n, D.ts (e n) * leak (D.pre1 (word (offsets i)) (e n) k) : ℝ) : EReal) := by
  pointwise [row]
  rw [Finset.sum_congr rfl fun n _ => show ts (ix2 n 0) * act (lay1 (lay0 (offsets i) w z) b1 w1) (ix2 n k)
      = ((D.ts (e n) * leak (D.pre1 (word (offsets i)) (e n) k) : ℝ) : EReal) by
    rw [hts, act_apply (lay1_apply D e (word (offsets i)) (lay0_apply D e i hwt hz) hw hb n k), EReal.coe_mul], sum_coe]

include hts in
/-- The row of the times' sum, read at any unit. -/
theorem tsRow_apply (k : Fin 128) : tsRow ts (ix2 0 k) = ((∑ n, D.ts (e n) : ℝ) : EReal) := by
  pointwise [tsRow]
  rw [← sum_coe]
  exact Finset.sum_congr rfl fun n _ => (Fin.sum_univ_one _).trans (hts n)

include hts hwt hz hb hw in
/-- The block's rows, element by element. -/
theorem rows_apply (q : Fin 16) (k : Fin 128) : rows ts w z b1 w1 (ix2 q k) = ((part D e q k : ℝ) : EReal) := by
  have hr : ∀ (i : Fin 9) (x : Fin 1), row (offsets i) ts w z b1 w1 (ix2 x k)
      = ((∑ n, D.ts (e n) * leak (D.pre1 (word (offsets i)) (e n) k) : ℝ) : EReal) := fun i x => by
    rw [Subsingleton.elim x 0]; exact row_apply D e hts hwt hz hb hw i k
  have ht : ∀ x : Fin 1, tsRow ts (ix2 x k) = ((∑ n, D.ts (e n) : ℝ) : EReal) := fun x => by
    rw [Subsingleton.elim x 0]; exact tsRow_apply D e hts k
  pointwise [rows]
  simp only [hr, ht]
  unfold part
  fin_cases q <;> simp

end Cert.Voxel.Ker

end
-- ==== Proof.KerPay.lean ====
/-
  The first kernel's stored value at one block, from the values it loads: the contents it found plus the block's rows,
  the scaled times and the first layer read element by element.
-/
module

public import proofs.«01_k».proof.Proof.KerBlock
public import Idealize.ShloMosaic.Lib.StableHlo.Predicate

@[expose] public section

set_option maxRecDepth 16384

noncomputable section

namespace Cert.Voxel.Ker

open Cert.KernelIdeal Cert.KernelIdeal.Gen Idealize.ShloMosaic

/-- The stored value: the contents found plus the block's rows. -/
theorem pay_eq (ts : FVec Ideal S4000x1 .f32) (w : FVec Ideal S1x128 .f32) (z : FVec Ideal S4000x128 .f32) (b1 : FVec Ideal S1x128 .f32)
    (w1 : FVec Ideal S128x128 .f32) (acc : FVec Ideal S16x128 .f32) :
    k0_pay2 ts b1 (k0_pay7 w1) (k0_pay8 ts w z b1 w1) (k0_pay9 ts w z b1 w1) (k0_pay10 ts w z b1 (k0_pay7 w1)) (k0_pay11 ts w z b1 (k0_pay7 w1))
      (k0_pay13 ts z b1 (k0_pay7 w1) (k0_pay12 w)) (k0_pay14 ts w z b1 (k0_pay7 w1))
      (k0_pay17 ts b1 (k0_pay7 w1) (k0_pay15 w z) (k0_pay16 w z)) (k0_pay18 ts w z b1 (k0_pay7 w1)) (k0_pay19 w z) acc
    = addf acc (rows ts w z b1 w1) := by
  have h7 : k0_pay7 w1 = w1 := shapeCast_self _ _
  have h : addf (shapeCast S16x128 acc shapeCasts_S16x128_S16x128) (rows ts w z b1 (k0_pay7 w1)) = addf acc (rows ts w z b1 w1) := by
    rw [h7, shapeCast_self]
  exact (show _ = addf (shapeCast S16x128 acc shapeCasts_S16x128_S16x128) (rows ts w z b1 (k0_pay7 w1)) from rfl).trans h

/-- The scaled time of a block's event: no event lies past the last one. -/
theorem ts_apply (i : grid0.Coords) (hi : (i 0).val < 125) (u v : FVec Ideal S1x1 .f32) (x : FVec Ideal S4000x4 .f32) (n : Fin 4000) :
    k0_pay3 i u v x (ix2 n 0) = (x (ix2 n 0) - u (ix2 0 0)) * v (ix2 0 0) := by
  have hn := n.isLt
  generalize hk : (i 0).val = k at hi
  have hw : IntOp.cmpi CmpIPredicate.slt (IntOp.addi (Scalar.muli (BitVec.ofNat 32 k) 4000#32) (BitVec.ofNat 32 n.val)) 500000#32 = 1#1 := by
    have ha : IntOp.addi (Scalar.muli (BitVec.ofNat 32 k) 4000#32) (BitVec.ofNat 32 n.val) = BitVec.ofNat 32 (k * 4000 + n.val) := by
      show BitVec.ofNat 32 k * BitVec.ofNat 32 4000 + BitVec.ofNat 32 n.val = _
      rw [← BitVec.ofNat_mul, ← BitVec.ofNat_add]
    rw [ha]
    exact (StableHlo.Predicate.slt_ofNat_iff (k * 4000 + n.val) 500000 (by omega) (by norm_num)).mpr (by omega)
  pointwise [k0_pay3]
  rw [hk, hw]
  rfl

/-- What the first layer hands its activation at offset zero. -/
theorem z_apply (i : grid0.Coords) (u v : FVec Ideal S1x1 .f32) (x : FVec Ideal S4000x4 .f32) (w p b : FVec Ideal S1x128 .f32) (n : Fin 4000) (j : Fin 128) :
    k0_pay5 i u v x w p b (ix2 n j) = k0_pay3 i u v x (ix2 n 0) * w (ix2 0 j)
      + (if x (ix2 n 3) = 0 then Ideal.ofBits .f32 0xBF800000#32 else x (ix2 n 3)) * p (ix2 0 j) + b (ix2 0 j) := by
  pointwise [k0_pay5, k0_pay4]

/-- The block's rows from the values loaded: the real numbers `part`, once the loaded values are the data's. -/
theorem block_apply (D : Data) (e : Fin 4000 → Fin 500000) (i : grid0.Coords) (hi : (i 0).val < 125) {u v : FVec Ideal S1x1 .f32}
    {x : FVec Ideal S4000x4 .f32} {w p b b1 : FVec Ideal S1x128 .f32} {w1 : FVec Ideal S128x128 .f32}
    (hts : ∀ n, (x (ix2 n 0) - u (ix2 0 0)) * v (ix2 0 0) = ((D.ts (e n) : ℝ) : EReal))
    (hpol : ∀ n, (if x (ix2 n 3) = 0 then Ideal.ofBits .f32 0xBF800000#32 else x (ix2 n 3)) = ((D.pol (e n) : ℝ) : EReal))
    (hwt : ∀ j, w (ix2 0 j) = ((D.wt j : ℝ) : EReal)) (hwp : ∀ j, p (ix2 0 j) = ((D.wp j : ℝ) : EReal))
    (hb0 : ∀ j, b (ix2 0 j) = ((D.b0 j : ℝ) : EReal)) (hb1 : ∀ k, b1 (ix2 0 k) = ((D.b1 k : ℝ) : EReal))
    (hw1 : ∀ j k, w1 (ix2 j k) = ((D.w1 k j : ℝ) : EReal)) (q : Fin 16) (k : Fin 128) :
    rows (k0_pay3 i u v x) (k0_pay4 w) (k0_pay5 i u v x w p b) (k0_pay6 b1) w1 (ix2 q k) = ((part D e q k : ℝ) : EReal) := by
  have h4 : k0_pay4 w = w := shapeCast_self _ _
  have h6 : k0_pay6 b1 = b1 := shapeCast_self _ _
  have h3 : ∀ n, k0_pay3 (F := Ideal) i u v x (ix2 n 0) = ((D.ts (e n) : ℝ) : EReal) := fun n => (ts_apply i hi u v x n).trans (hts n)
  rw [h4, h6]
  refine rows_apply D e h3 hwt (fun n j => ?_) hb1 hw1 q k
  rw [z_apply, h3, hpol, hwt, hwp, hb0, ← EReal.coe_mul, ← EReal.coe_mul, ← EReal.coe_add, ← EReal.coe_add]

end Cert.Voxel.Ker

end
-- ==== Proof.KerAcc.lean ====
/-
  The first kernel's result array: after all blocks, each row holds the sum over all events.
-/
module

public import proofs.«01_k».proof.Proof.KerPay
public import proofs.«01_k».proof.Proof.Gen.KernelIdeal.Frame
public import Idealize.ShloMosaic.Lib.Pipeline.ValueKit

@[expose] public section

set_option maxRecDepth 16384

noncomputable section

namespace Cert.Voxel.Ker

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- What the first kernel finds in its input arrays, element by element, as the real data `D`. -/
structure Entry (D : Data) (ev : FVec Ideal S500000x4 .f32) (cs w p b b1 : FVec Ideal S1x128 .f32) (w1 : FVec Ideal S128x128 .f32) : Prop where
  h_ts : ∀ n, (ev (ix2 n 0) - cs (ix2 0 0)) * cs (ix2 0 1) = ((D.ts n : ℝ) : EReal)
  h_pol : ∀ n, (if ev (ix2 n 3) = 0 then Ideal.ofBits .f32 0xBF800000#32 else ev (ix2 n 3)) = ((D.pol n : ℝ) : EReal)
  h_wt : ∀ j, w (ix2 0 j) = ((D.wt j : ℝ) : EReal)
  h_wp : ∀ j, p (ix2 0 j) = ((D.wp j : ℝ) : EReal)
  h_b0 : ∀ j, b (ix2 0 j) = ((D.b0 j : ℝ) : EReal)
  h_b1 : ∀ k, b1 (ix2 0 k) = ((D.b1 k : ℝ) : EReal)
  h_w1 : ∀ j k, w1 (ix2 j k) = ((D.w1 k j : ℝ) : EReal)

/-- Event `n` of block `t`, among all events. -/
def eventOf (t : Fin cfg0.N) (n : Fin 4000) : Fin 500000 :=
  ⟨t.val * 4000 + n.val, by have ht := lt_of_lt_of_eq t.isLt (show cfg0.N = 125 from N_0); have := n.isLt; omega⟩

/-- Where the windows of the first kernel look at each point. -/
theorem idx : ∀ t : Fin cfg0.N, (grid0.coords t 0).val = t.val ∧ win0_0.index t = ![0, 0] ∧ win0_1.index t = ![t.val, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- Where the output window of the first kernel looks at each point. -/
theorem idx_out : ∀ t : Fin cfg0.N, win0_7.index t = ![0, 0] := (by decide +kernel : ∀ t : Fin grid0.N, _)

variable (D : Data)

section

variable (c : Dev nD)

/-- The constants' block is the whole constants' array. -/
theorem consts_block (t : Fin cfg0.N) (k : Fin 128) : iblk0 V c 0 t (ix2 0 k) = V c main_v16 (ix2 0 k) := by
  blk_point [iblk0, idx t]

/-- The first constant loaded. -/
theorem load_first (t : Fin cfg0.N) :
    View.ld (iblk0 V c 0 t) (Rect.unit ![0, 0] ![1, 1] inb_S1x128_S1x1_0_0) (ix2 0 0) = V c main_v16 (ix2 0 0) :=
  (View.ld_unit_apply_of _ _ _ _ _ (ix2 0 0) (fun a => by fin_cases a <;> rfl)).trans (consts_block V c t 0)

/-- The second constant loaded. -/
theorem load_second (t : Fin cfg0.N) :
    View.ld (iblk0 V c 0 t) (Rect.unit ![0, 1] ![1, 1] inb_S1x128_S1x1_0_1) (ix2 0 0) = V c main_v16 (ix2 0 1) :=
  (View.ld_unit_apply_of _ _ _ _ _ (ix2 0 1) (fun a => by fin_cases a <;> rfl)).trans (consts_block V c t 1)

/-- An event's block row is the event's row of the whole array. -/
theorem events_block (t : Fin cfg0.N) (n : Fin 4000) (k : Fin 4) : iblk0 V c 1 t (ix2 n k) = V c main_arg0 (ix2 (eventOf t n) k) := by
  have he : (eventOf t n).val = t.val * 4000 + n.val := rfl
  blk_point [iblk0, idx t]

variable (h : Entry D (V c main_arg0) (V c main_v16) (V c main_v19) (V c main_v22) (V c main_v23) (V c main_v24) (V c main_v25))

include h in
/-- The rows one point adds. -/
theorem point_rows (t : Fin cfg0.N) (j : S16x128.Idx) :
    rows (k0_pay3 (grid0.coords t) (View.ld (iblk0 V c 0 t) (Rect.unit ![0, 0] ![1, 1] inb_S1x128_S1x1_0_0))
          (View.ld (iblk0 V c 0 t) (Rect.unit ![0, 1] ![1, 1] inb_S1x128_S1x1_0_1)) (iblk0 V c 1 t))
        (k0_pay4 (iblk0 V c 2 t))
        (k0_pay5 (grid0.coords t) (View.ld (iblk0 V c 0 t) (Rect.unit ![0, 0] ![1, 1] inb_S1x128_S1x1_0_0))
          (View.ld (iblk0 V c 0 t) (Rect.unit ![0, 1] ![1, 1] inb_S1x128_S1x1_0_1)) (iblk0 V c 1 t) (iblk0 V c 2 t)
          (iblk0 V c 3 t) (iblk0 V c 4 t))
        (k0_pay6 (iblk0 V c 5 t)) (iblk0 V c 6 t) j
      = ((part D (eventOf t) (j 0) (j 1) : ℝ) : EReal) := by
  obtain ⟨hg, h0, h1, h2, h3, h4, h5, h6⟩ := idx t
  have ht := lt_of_lt_of_eq t.isLt (show cfg0.N = 125 from N_0)
  conv_lhs => rw [eq_ix2 j]
  refine block_apply D (eventOf t) (grid0.coords t) (by rw [hg]; exact ht) (fun n => ?_) (fun n => ?_) (fun k => ?_) (fun k => ?_) (fun k => ?_) (fun k => ?_)
    (fun k l => ?_) (j 0) (j 1)
  · rw [load_first, load_second, events_block]; exact h.h_ts (eventOf t n)
  · rw [events_block]; exact h.h_pol (eventOf t n)
  · refine Eq.trans ?_ (h.h_wt k)
    blk_point [iblk0, idx t]
  · refine Eq.trans ?_ (h.h_wp k)
    blk_point [iblk0, idx t]
  · refine Eq.trans ?_ (h.h_b0 k)
    blk_point [iblk0, idx t]
  · refine Eq.trans ?_ (h.h_b1 k)
    blk_point [iblk0, idx t]
  · refine Eq.trans ?_ (h.h_w1 k l)
    blk_point [iblk0, idx t]

include h in
/-- The first kernel's result array, element by element: the sum over the blocks of the rows each adds. -/
theorem acc_blocks (j : S16x128.Idx) :
    (dat0 V c).arrAt 7 cfg0.N j = ((∑ t : Fin cfg0.N, part D (eventOf t) (j 0) (j 1) : ℝ) : EReal) := by
  refine congrFun ((dat0 V c).arrAt_eq_of_covers 7 (fun j => ((∑ t : Fin cfg0.N, part D (eventOf t) (j 0) (j 1) : ℝ) : EReal)) (by decide +kernel)
    fun t hf y => ?_) j
  have ht := (flush0_7 t).mp hf
  have hN : cfg0.N = 125 := N_0
  blk_simp
  rw [after0_7, Pipeline.eq_sum_fin_of_reset_step_apply_last (fun n h => outsAt0 V c n h) 125 (fun _ => 0)
    (fun p j => ((part D (eventOf p) (j 0) (j 1) : ℝ) : EReal))
    (fun t h' j => by
      rw [outsAt0_A V c t h']; frame_out; rw [pay_eq]
      exact congrArg₂ (· + ·) (by pointwise [k0_pay1]) (point_rows V D c h t j))
    (fun t h' j => by
      rw [outsAt0_B V c t h']; frame_out; rw [pay_eq]
      exact congrArg₂ (· + ·) rfl (point_rows V D c h t j))
    (le_of_eq N_0) t (by have := t.isLt; omega) _, zero_add]
  rw [sum_coe]
  refine congrArg _ (Finset.sum_congr rfl fun p _ => congrArg₂ (part D (eventOf p)) (Fin.ext ?_) (Fin.ext ?_))
  all_goals blk_simp [idx_out t]

/-- What the first kernel's result array holds as real numbers: nine rows of hidden units weighted by the times and
    summed over all events, the sum of the times, zeros. -/
def whole (q : Fin 16) (k : Fin 128) : ℝ :=
  if h : q.val < 9 then ∑ n, D.ts n * leak (D.pre1 (word (offsets ⟨q.val, h⟩)) n k) else if q.val = 9 then ∑ n, D.ts n else 0

/-- A sum over all events, taken block by block. -/
theorem sum_blocks (f : Fin 500000 → ℝ) : ∑ t : Fin cfg0.N, ∑ n, f (eventOf t n) = ∑ n, f n :=
  (Fin.sum_univ_tiles cfg0.N 4000 (by rw [show cfg0.N = 125 from N_0]) f).symm

/-- The blocks' parts add up to the whole. -/
theorem sum_part (q : Fin 16) (k : Fin 128) : ∑ t : Fin cfg0.N, part D (eventOf t) q k = whole D q k := by
  by_cases h9 : q.val < 9
  · simp only [part, whole, dif_pos h9]
    exact sum_blocks (fun n => D.ts n * leak (D.pre1 (word (offsets ⟨q.val, h9⟩)) n k))
  · by_cases h10 : q.val = 9
    · simp only [part, whole, dif_neg h9, if_pos h10]
      exact sum_blocks D.ts
    · simp only [part, whole, dif_neg h9, if_neg h10]
      exact Finset.sum_const_zero

include h in
/-- The first kernel's result array, element by element. -/
theorem acc_apply (q : Fin 16) (k : Fin 128) : (dat0 V c).arrAt 7 cfg0.N (ix2 q k) = ((whole D q k : ℝ) : EReal) := by
  rw [acc_blocks V D c h (ix2 q k)]
  exact congrArg _ (sum_part D q k)

end

end Cert.Voxel.Ker

end
-- ==== Proof.KerHost.lean ====
/-
  What the kernels' input arrays hold when each kernel starts: the host operations before it, read element by element.
-/
module

public import proofs.«01_k».proof.Proof.Args
public import proofs.«01_k».proof.Proof.KerAcc
public import Idealize.ShloMosaic.Lib.Routing.OpsOne
public import Idealize.ShloMosaic.Lib.Claim

@[expose] public section

set_option maxRecDepth 16384

noncomputable section

namespace Cert.Voxel.Ker

open Cert.KernelIdeal Cert.KernelIdeal.Gen Idealize.ShloMosaic Idealize.ShloMosaic.TcCoe Idealize.SL.Sem

/-! ## The host's terms -/

/-- A column of the table holding two index words. -/
def cell (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- A row of 128 zeros with one cell set. -/
def setCell (x : FVec Ideal S1x128 .f32) (a b : BitVec 32) (v : FVec Ideal S_ .f32) : FVec Ideal S1x128 .f32 :=
  Host.scatter scatter_S1x128_S2_S__n_01_01_0 (fun _ b => b) x (cell a b) v

/-- A row of 128 zeros. -/
def zeros : FVec Ideal S1x128 .f32 := broadcastInDim S1x128 ![] bcast_S_S1x128 (constant (F := Ideal) S_ .f32 0x00000000#32)

/-- The first event's time, as the host takes it. -/
def firstT (ev : FVec Ideal S500000x4 .f32) : FVec Ideal S_ .f32 :=
  shapeCast S_ (extractStridedSlice S1x1 ![0, 0] ev slices_S500000x4_S1x1_0_0) shapeCasts_S1x1_S_

/-- The last event's time, as the host takes it. -/
def lastT (ev : FVec Ideal S500000x4 .f32) : FVec Ideal S_ .f32 :=
  shapeCast S_ (extractStridedSlice S1x1 ![499999, 0] ev slices_S500000x4_S1x1_499999_0) shapeCasts_S1x1_S_

/-- The inverse of the times' span, as the host takes it. -/
def invT (ev : FVec Ideal S500000x4 .f32) : FVec Ideal S_ .f32 :=
  Host.divf (constant (F := Ideal) S_ .f32 0x3F800000#32)
    (select (cmpf .oeq (subf (lastT ev) (firstT ev)) (constant (F := Ideal) S_ .f32 0x00000000#32)) (constant (F := Ideal) S_ .f32 0x3F800000#32)
      (subf (lastT ev) (firstT ev)))

/-- One column of the first layer's weights, as a row. -/
def colT (o : Fin 2 → Nat) (h : S128x4.Slices o S128x1) (W : FVec Ideal S128x4 .f32) : FVec Ideal S1x128 .f32 :=
  shapeCast S1x128 (shapeCast S128 (extractStridedSlice S128x1 o W h) shapeCasts_S128x1_S128) shapeCasts_S128_S1x128

section

variable (m : (ℓ : Loc nD τ sig) → Buf (Elt Ideal) ℓ) (ρ : Dev nD → PrngReg) (c : Dev nD)

/-- The first kernel's constants: the first time at column 0, the inverse of the time span at column 1, zeros after. -/
theorem W3_v16 : W3 m ρ c (Proc.devRef .tc main_v16)
    = setCell (setCell zeros 0#32 0#32 (firstT (m (c.tc.loc main_arg0)))) 0#32 1#32 (invT (m (c.tc.loc main_arg0))) := by
  after_results
  rfl

/-- The row the first kernel finds as the time's weights: the first column of `W0`. -/
theorem W3_v19 : W3 m ρ c (Proc.devRef .tc main_v19) = colT ![0, 0] slices_S128x4_S128x1_0_0 (m (c.tc.loc main_arg1)) := by
  after_results
  rfl

/-- The row the first kernel finds as the polarity's weights: the second column of `W0`. -/
theorem W3_v22 : W3 m ρ c (Proc.devRef .tc main_v22) = colT ![0, 1] slices_S128x4_S128x1_0_1 (m (c.tc.loc main_arg1)) := by
  after_results
  rfl

/-- The row the first kernel finds as the first layer's bias. -/
theorem W3_v23 : W3 m ρ c (Proc.devRef .tc main_v23) = shapeCast S1x128 (m (c.tc.loc main_arg2)) shapeCasts_S128_S1x128 := by
  after_results
  rfl

/-- The row the first kernel finds as the second layer's bias. -/
theorem W3_v24 : W3 m ρ c (Proc.devRef .tc main_v24) = shapeCast S1x128 (m (c.tc.loc main_arg4)) shapeCasts_S128_S1x128 := by
  after_results
  rfl

/-- The matrix the first kernel finds: `W1` transposed. -/
theorem W3_v25 : W3 m ρ c (Proc.devRef .tc main_v25) = transpose S128x128 [1, 0] (m (c.tc.loc main_arg3)) transposes_S128x128_S128x128_1_0 := by
  after_results

/-- The first kernel finds the events as launched. -/
theorem W3_arg0 : W3 m ρ c (Proc.devRef .tc main_arg0) = m (c.tc.loc main_arg0) := W3_args m ρ c main_arg0 (by decide)

/-- The row the second kernel finds as the bias: the last layer's bias at column 0, zeros after. -/
theorem W5_v32 : W5 m ρ c (Proc.devRef .tc main_v32) = setCell zeros 0#32 0#32 (shapeCast S_ (m (c.tc.loc main_arg6)) shapeCasts_S1_S_) := by
  have h : W4 m ρ c (Proc.devRef .tc main_arg6) = m (c.tc.loc main_arg6) := W4_args m ρ c main_arg6 (by decide)
  after_results
  rw [h]
  rfl

/-- The second kernel finds the sums the first one left. -/
theorem W5_v26 : W5 m ρ c (Proc.devRef .tc main_v26) = (dat0 (V3 m ρ) c).arrAt 7 cfg0.N :=
  (W5_of m ρ c main_v26 (by decide)).trans (W4_arr m ρ c 7)

/-- The second kernel finds the last layer's weights as launched. -/
theorem W5_arg5 : W5 m ρ c (Proc.devRef .tc main_arg5) = m (c.tc.loc main_arg5) := W5_args m ρ c main_arg5 (by decide)

/-- The result is the second kernel's array, reshaped. -/
theorem W7_v34 : W7 m ρ c (Proc.devRef .tc main_v34)
    = shapeCast S1x9x480x640 ((dat1 (V5 m ρ) c).arrAt 3 cfg1.N) shapeCasts_S9x480x640_S1x9x480x640 := by
  have h : W6 m ρ c (Proc.devRef .tc main_v33) = (dat1 (V5 m ρ) c).arrAt 3 cfg1.N := W6_arr m ρ c 3
  after_results
  rw [h]
  rfl

end

/-! ## The terms, element by element -/

/-- A row with one cell set, read at a column: the value at that cell, the row elsewhere. -/
theorem setCell_apply (x : FVec Ideal S1x128 .f32) (a b : BitVec 32) (v : FVec Ideal S_ .f32) (k : Fin 128) :
    setCell x a b v (ix2 0 k) = if a.toInt = 0 ∧ b.toInt = k.val then v ix0 else x (ix2 0 k) := by
  have ha : cell a b (ix1 0) = a := by pointwise [cell]
  have hb : cell a b (ix1 1) = b := by pointwise [cell]
  have h : setCell x a b v (ix2 0 k) = if (cell a b (ix1 0)).toInt = 0 ∧ (cell a b (ix1 1)).toInt = k.val then v ix0 else x (ix2 0 k) :=
    Routing.scatter_cell_signed scatter_S1x128_S2_S__n_01_01_0 rfl rfl rfl x (cell a b) v 0 k
  rw [ha, hb] at h
  exact h

/-- The first event's time. -/
theorem firstT_apply (ev : FVec Ideal S500000x4 .f32) : firstT ev ix0 = ev (ix2 0 0) := by
  pointwise [firstT]

/-- The last event's time. -/
theorem lastT_apply (ev : FVec Ideal S500000x4 .f32) : lastT ev ix0 = ev (ix2 499999 0) := by
  pointwise [lastT]

/-- One over the time span, a span of zero replaced by one. -/
theorem invT_apply (ev : FVec Ideal S500000x4 .f32) :
    invT ev ix0 = Ideal.div 1 (if ev (ix2 499999 0) - ev (ix2 0 0) = 0 then 1 else ev (ix2 499999 0) - ev (ix2 0 0)) := by
  have hf := firstT_apply ev
  have hl := lastT_apply ev
  pointwise [invT]
  rw [hf, hl]

/-- The first column of the weights as a row, read at a unit. -/
theorem colT_apply0 (W : FVec Ideal S128x4 .f32) (j : Fin 128) : colT ![0, 0] slices_S128x4_S128x1_0_0 W (ix2 0 j) = W (ix2 j 0) := by
  pointwise [colT]

/-- The second column of the weights as a row, read at a unit. -/
theorem colT_apply1 (W : FVec Ideal S128x4 .f32) (j : Fin 128) : colT ![0, 1] slices_S128x4_S128x1_0_1 W (ix2 0 j) = W (ix2 j 1) := by
  pointwise [colT]

/-- A vector of units as a row, read at a unit. -/
theorem row_of_vec (b : FVec Ideal S128 .f32) (j : Fin 128) : shapeCast S1x128 b shapeCasts_S128_S1x128 (ix2 0 j) = b (ix1 j) := by
  pointwise

/-- A vector of one element as a scalar. -/
theorem scalar_of_vec (b : FVec Ideal S1 .f32) : shapeCast S_ b shapeCasts_S1_S_ ix0 = b (ix1 0) := by
  pointwise

/-- The transposed matrix, read at an element. -/
theorem transpose_apply' (W : FVec Ideal S128x128 .f32) (j k : Fin 128) :
    transpose S128x128 [1, 0] W transposes_S128x128_S128x128_1_0 (ix2 j k) = W (ix2 k j) := by
  pointwise

/-! ## What the kernels find -/

/-- The second constant cell holds the real reciprocal of the span. -/
theorem invT_coe {ev : FVec Ideal S500000x4 .f32} (h : ∀ i, ∃ r : ℝ, ev i = (r : EReal)) : invT ev ix0 = ((1 / span ev : ℝ) : EReal) := by
  rw [invT_apply, span_coe h, Ideal.div_coe (span_ne ev), one_mul]

section

variable (m : (ℓ : Loc nD τ sig) → Buf (Elt Ideal) ℓ) (ρ : Dev nD → PrngReg) (c : Dev nD)

/-- The arguments of a device satisfy the precondition's facts. -/
abbrev Ok : Prop :=
  Tame (m (c.tc.loc main_arg0)) (m (c.tc.loc main_arg1)) (m (c.tc.loc main_arg2)) (m (c.tc.loc main_arg3)) (m (c.tc.loc main_arg4))
    (m (c.tc.loc main_arg5)) (m (c.tc.loc main_arg6))

/-- The real data of a device's arguments. -/
abbrev data : Data :=
  dataOf (m (c.tc.loc main_arg0)) (m (c.tc.loc main_arg1)) (m (c.tc.loc main_arg2)) (m (c.tc.loc main_arg3)) (m (c.tc.loc main_arg4))
    (m (c.tc.loc main_arg5)) (m (c.tc.loc main_arg6))

variable {m c}

/-- The first kernel starts from the data's real numbers. -/
theorem entry (T : Ok m c) : Entry (data m c) (V3 m ρ c main_arg0) (V3 m ρ c main_v16) (V3 m ρ c main_v19) (V3 m ρ c main_v22)
    (V3 m ρ c main_v23) (V3 m ρ c main_v24) (V3 m ρ c main_v25) where
  h_ts n := by
    rw [show V3 m ρ c main_arg0 = _ from W3_arg0 m ρ c, show V3 m ρ c main_v16 = _ from W3_v16 m ρ c, setCell_apply, setCell_apply, setCell_apply,
      if_neg (by decide), if_pos (by decide), if_pos (by decide), firstT_apply, invT_coe T.h_ev]
    exact ts_coe T.h_ev n
  h_pol n := by
    rw [show V3 m ρ c main_arg0 = _ from W3_arg0 m ρ c]
    exact polarity_coe T.h_ev n
  h_wt j := by
    rw [show V3 m ρ c main_v19 = _ from W3_v19 m ρ c, colT_apply0]
    exact coe_of_real (T.h_wt j)
  h_wp j := by
    rw [show V3 m ρ c main_v22 = _ from W3_v22 m ρ c, colT_apply1]
    exact coe_of_real (T.h_wp j)
  h_b0 j := by
    rw [show V3 m ρ c main_v23 = _ from W3_v23 m ρ c, row_of_vec]
    exact coe_of_real (T.h_b0 _)
  h_b1 k := by
    rw [show V3 m ρ c main_v24 = _ from W3_v24 m ρ c, row_of_vec]
    exact coe_of_real (T.h_b1 _)
  h_w1 j k := by
    rw [show V3 m ρ c main_v25 = _ from W3_v25 m ρ c, transpose_apply']
    exact coe_of_real (T.h_W1 _)

/-- The second kernel finds the first one's result. -/
theorem found_acc (T : Ok m c) (q : Fin 16) (k : Fin 128) : V5 m ρ c main_v26 (ix2 q k) = ((whole (data m c) q k : ℝ) : EReal) := by
  rw [show V5 m ρ c main_v26 = _ from W5_v26 m ρ c]
  exact acc_apply (V3 m ρ) (data m c) c (entry ρ T) q k

/-- It finds the last layer's weights. -/
theorem found_w2 (T : Ok m c) (k : Fin 128) : V5 m ρ c main_arg5 (ix2 0 k) = (((data m c).w2 k : ℝ) : EReal) := by
  rw [show V5 m ρ c main_arg5 = _ from W5_arg5 m ρ c]
  exact coe_of_real (T.h_W2 _)

/-- It finds the last layer's bias. -/
theorem found_b2 (T : Ok m c) : V5 m ρ c main_v32 (ix2 0 0) = (((data m c).b2 : ℝ) : EReal) := by
  rw [show V5 m ρ c main_v32 = _ from W5_v32 m ρ c, setCell_apply, if_pos (by decide), scalar_of_vec]
  exact coe_of_real (T.h_b2 _)

end

end Cert.Voxel.Ker

end
-- ==== Proof.KerEmit.lean ====
/-
  The second kernel's result array: bin by bin, an image that is zero but for its first pixel, which holds the last
  layer applied to the first kernel's sums.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Voxel.Ker

open Cert.KernelIdeal Cert.KernelIdeal.Gen Idealize.ShloMosaic Idealize.ShloMosaic.TcCoe Idealize.SL.Sem
open Idealize.ShloMosaic.Pipeline (Dat)

/-- A small number's word compared with zero. -/
theorem zero_word (n : Nat) (h : n < 2 ^ 32) : IntOp.cmpi .eq (BitVec.ofNat 32 n) 0#32 = if n = 0 then 1#1 else 0#1 := by
  by_cases h0 : n = 0
  · rw [if_pos h0, h0]; rfl
  · rw [if_neg h0]
    have hb : (BitVec.ofNat 32 n == 0#32) = false := by
      refine beq_eq_false_iff_ne.mpr fun he => h0 ?_
      have := congrArg BitVec.toNat he
      rwa [BitVec.toNat_ofNat, Nat.mod_eq_of_lt h] at this
    exact congrArg BitVec.ofBool hb

/-- The stored image, pixel by pixel, from the values loaded. -/
theorem emit_apply (a w : FVec Ideal S1x128 .f32) (b s : FVec Ideal S1x1 .f32) (i : Fin 1) (r : Fin 480) (k : Fin 640) :
    k1_pay1 a w b s (ix3 i r k)
      = if r.val = 0 ∧ k.val = 0 then ∑ l, a (ix2 0 l) * w (ix2 0 l) + b (ix2 0 0) * s (ix2 0 0) else 0 := by
  have hr := r.isLt
  have hk := k.isLt
  pointwise [k1_pay1]
  rw [zero_word _ (by omega), zero_word _ (by omega), Fin.sum_univ_one]
  by_cases h0 : r.val = 0
  · by_cases h1 : k.val = 0
    · rw [if_pos h0, if_pos h1, if_pos ⟨h0, h1⟩]; rfl
    · rw [if_pos h0, if_neg h1, if_neg fun h => h1 h.2]; rfl
  · by_cases h1 : k.val = 0
    · rw [if_neg h0, if_pos h1, if_neg fun h => h0 h.1]; rfl
    · rw [if_neg h0, if_neg h1, if_neg fun h => h0 h.1]; rfl

variable (V : (c : Dev nD) → (b : Ref sig .tc) → Buf (Elt Ideal) ((c : Thread nD τ).loc b)) (c : Dev nD)

/-- Where the windows of the second kernel look at each point, and the row of sums it loads. -/
theorem idx_emit : ∀ t : Fin cfg1.N, k1_off1 (grid1.coords t) = ![t.val, 0] ∧ win1_0.index t = ![0, 0] ∧ win1_1.index t = ![0, 0]
    ∧ win1_2.index t = ![0, 0] ∧ win1_3.index t = ![t.val, 0, 0] :=
  (by decide +kernel : ∀ t : Fin grid1.N, _)

/-- The sums' block is the whole array of sums. -/
theorem sums_block (t : Fin cfg1.N) (q : Fin 16) (k : Fin 128) : iblk1 V c 0 t (ix2 q k) = V c main_v26 (ix2 q k) := by
  blk_point [iblk1, idx_emit t]

/-- The weights' block is the whole array of weights. -/
theorem weights_block (t : Fin cfg1.N) (k : Fin 128) : iblk1 V c 1 t (ix2 0 k) = V c main_arg5 (ix2 0 k) := by
  blk_point [iblk1, idx_emit t]

/-- The bias's block is the whole array holding it. -/
theorem bias_block (t : Fin cfg1.N) (k : Fin 128) : iblk1 V c 2 t (ix2 0 k) = V c main_v32 (ix2 0 k) := by
  blk_point [iblk1, idx_emit t]

/-- The bin a point makes. -/
def binOf (t : Fin cfg1.N) : Fin 16 := ⟨t.val, by have := lt_of_lt_of_eq t.isLt (show cfg1.N = 9 from N_1); omega⟩

/-- The row of sums loaded is the bin's. -/
theorem load_row (t : Fin cfg1.N) (k : Fin 128) (h) :
    View.ld (iblk1 V c 0 t) (Rect.unit (k1_off1 (grid1.coords t)) ![1, 128] h) (ix2 0 k) = V c main_v26 (ix2 (binOf t) k) :=
  (View.ld_unit_apply_of _ _ _ _ _ (ix2 (binOf t) k) (fun a =>
    Eq.trans (by fin_cases a <;> [rfl; exact (Nat.zero_add _).symm]) (congrArg (· + _) (congrFun (idx_emit t).1 a).symm))).trans (sums_block V c t (binOf t) k)

/-- The times' sum loaded. -/
theorem load_sum (t : Fin cfg1.N) :
    View.ld (iblk1 V c 0 t) (Rect.unit ![9, 0] ![1, 1] inb_S16x128_S1x1_9_0) (ix2 0 0) = V c main_v26 (ix2 9 0) :=
  (View.ld_unit_apply_of _ _ _ _ _ (ix2 9 0) (fun a => by fin_cases a <;> rfl)).trans (sums_block V c t 9 0)

/-- The bias loaded. -/
theorem load_bias (t : Fin cfg1.N) :
    View.ld (iblk1 V c 2 t) (Rect.unit ![0, 0] ![1, 1] inb_S1x128_S1x1_0_0) (ix2 0 0) = V c main_v32 (ix2 0 0) :=
  (View.ld_unit_apply_of _ _ _ _ _ (ix2 0 0) (fun a => by fin_cases a <;> rfl)).trans (bias_block V c t 0)

/-- Bin `i`'s image at a pixel, from the arrays the second kernel finds. -/
def pixel (acc : FVec Ideal S16x128 .f32) (w bias : FVec Ideal S1x128 .f32) (i : Fin 16) (r k : Nat) : EReal :=
  if r = 0 ∧ k = 0 then ∑ l, acc (ix2 i l) * w (ix2 0 l) + bias (ix2 0 0) * acc (ix2 9 0) else 0

/-- The image one point makes, at a pixel. -/
theorem image_at (t : Fin cfg1.N) (i : Fin 1) (r : Fin 480) (k : Fin 640) :
    outsAt1 V c t (ix3 i r k) = pixel (V c main_v26) (V c main_arg5) (V c main_v32) (binOf t) r.val k.val := by
  unfold outsAt1
  frame_out
  rw [emit_apply, load_sum, load_bias]
  unfold pixel
  refine if_congr Iff.rfl (congrArg (· + _) (Finset.sum_congr rfl fun l _ => ?_)) rfl
  rw [load_row, weights_block]

/-- The image one point makes. -/
theorem image (t : Fin cfg1.N) (j : S1x480x640.Idx) :
    outsAt1 V c t j = pixel (V c main_v26) (V c main_arg5) (V c main_v32) (binOf t) (j 1).val (j 2).val :=
  (congrArg (outsAt1 V c t) (eq_ix3 j)).trans (image_at V c t (j 0) (j 1) (j 2))

/-- The second kernel's result array, element by element. -/
theorem emit (i : Fin 9) (r : Fin 480) (k : Fin 640) :
    (dat1 V c).arrAt 3 cfg1.N (ix3 i r k)
      = pixel (V c main_v26) (V c main_arg5) (V c main_v32) (i.castLE (by norm_num)) r.val k.val := by
  refine congrFun ((dat1 V c).arrAt_eq_of_covers 3
    (fun j => pixel (V c main_v26) (V c main_arg5) (V c main_v32) ((show Fin 9 from j 0).castLE (by norm_num)) (j 1).val (j 2).val) (by decide +kernel)
    fun t hf y => ?_) (ix3 i r k)
  blk_simp [idx_emit t]
  rw [after1_3, image]
  refine congrArg (pixel _ _ _ · _ _) (Fin.ext ?_)
  change t.val = ((win1_3.blk t).view.emb y 0).val
  blk_simp [idx_emit t]

end Cert.Voxel.Ker

end
-- ==== Proof.KerValue.lean ====
/-
  The kernel's result: the array of the mathematics, from the data of its arguments.
-/
module

public import proofs.«01_k».proof.Proof.KerHost
public import proofs.«01_k».proof.Proof.KerEmit

@[expose] public section

set_option maxRecDepth 16384

noncomputable section

namespace Cert.Voxel.Ker

open Cert.KernelIdeal Cert.KernelIdeal.Gen Idealize.ShloMosaic Idealize.ShloMosaic.TcCoe Idealize.SL.Sem

/-- A pixel of the second kernel, once the sums it finds are the data's: the bin's total at the first pixel. -/
theorem pixel_eq (D : Data) {acc : FVec Ideal S16x128 .f32} {w bias : FVec Ideal S1x128 .f32}
    (ha : ∀ q k, acc (ix2 q k) = ((whole D q k : ℝ) : EReal)) (hw : ∀ k, w (ix2 0 k) = ((D.w2 k : ℝ) : EReal))
    (hb : bias (ix2 0 0) = ((D.b2 : ℝ) : EReal)) (i : Fin 9) (r : Fin 480) (k : Fin 640) :
    pixel acc w bias (i.castLE (by norm_num)) r.val k.val = D.out i r k := by
  have h9 : ∀ l, whole D (i.castLE (by norm_num)) l = ∑ n, D.ts n * leak (D.pre1 (word (offsets i)) n l) := fun l => dif_pos i.isLt
  have hs : whole D 9 0 = ∑ n, D.ts n := by
    unfold whole
    rw [dif_neg (by decide), if_pos (by decide)]
  have ht : ∑ l, acc (ix2 (i.castLE (by norm_num)) l) * w (ix2 0 l) + bias (ix2 0 0) * acc (ix2 9 0)
      = ((D.total (word (offsets i)) : ℝ) : EReal) := by
    rw [ha, hs, hb, ← EReal.coe_mul, ← D.total_eq (word (offsets i)), EReal.coe_add, ← sum_coe]
    refine congrArg (· + _) (Finset.sum_congr rfl fun l _ => ?_)
    rw [ha, hw, h9, EReal.coe_mul]
  unfold pixel Data.out
  by_cases h : r.val = 0 ∧ k.val = 0
  · simp only [if_pos h, ht]
  · simp only [if_neg h]

variable (m : (ℓ : Loc nD τ sig) → Buf (Elt Ideal) ℓ) (ρ : Dev nD → PrngReg) (c : Dev nD)

/-- The reshaped result read at a bin and a pixel. -/
theorem reshape_apply' (x : FVec Ideal S9x480x640 .f32) (b : Fin 1) (i : Fin 9) (r : Fin 480) (k : Fin 640) :
    shapeCast S1x9x480x640 x shapeCasts_S9x480x640_S1x9x480x640 (ix4 b i r k) = x (ix3 i r k) := by
  pointwise

/-- What the kernel's result buffer holds when the program has run. -/
theorem result (T : Ok m c) : (W7 m ρ c (Proc.devRef .tc main_v34) : FVec Ideal S1x9x480x640 .f32) = fun y => (data m c).out (y 1) (y 2) (y 3) := by
  rw [W7_v34]
  funext y
  refine (congrArg _ (eq_ix4 y)).trans ((reshape_apply' _ (y 0) (y 1) (y 2) (y 3)).trans ?_)
  refine (emit (V5 m ρ) c (y 1) (y 2) (y 3)).trans ?_
  exact pixel_eq (data m c) (found_acc ρ T) (found_w2 ρ T) (found_b2 ρ T) (y 1) (y 2) (y 3)

end Cert.Voxel.Ker

end
-- ==== Proof.KerRun.lean ====
/-
  The kernel's run: where the precondition holds, it ends with its result at the mathematics' array and its arguments
  unchanged.
-/
module

public import proofs.«01_k».proof.Proof.KerValue
public import proofs.«01_k».proof.Proof.Gen.KernelIdeal.Frame

@[expose] public section

set_option maxRecDepth 16384

noncomputable section

namespace Cert.Voxel.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The resources of the launch. -/
abbrev Res := MT nD τ sig Unit (Elt Ideal) ℕ (UR sig nD τ) ℕ

-- the launch's implicit arguments are found by unifying its conclusion, which takes unfolding plain definitions
set_option backward.isDefEq.respectTransparency.types false in
/-- Every run of the kernel ends with each of its unscoped buffers at what the last host stretch leaves in it. -/
theorem run_buffers : θ_run defs (onTc (τ := τ) (main (F := Ideal))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

/-- Every run of the kernel, the precondition holding, ends with its result at the mathematics' array, and its arguments unchanged. -/
theorem run_value (h : ∀ c, Ok m c) :
    θ_run defs (onTc (τ := τ) (main (F := Ideal))) ⟨m, fun _ => 0, ρ⟩ fun r => ∀ c : Dev nD,
      (r.2.mem ((c.tc : Thread nD τ).loc main_v34) : FVec Ideal S1x9x480x640 .f32) = (fun y => (data m c).out (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r hr c =>
    ⟨(hr c _ (mem_uc main_v34 (by decide))).trans (result m ρ c (h c)),
     (hr c _ (mem_uc main_arg0 (by decide))).trans (W7_main_arg0 m ρ c),
     (hr c _ (mem_uc main_arg1 (by decide))).trans (W7_main_arg1 m ρ c),
     (hr c _ (mem_uc main_arg2 (by decide))).trans (W7_main_arg2 m ρ c),
     (hr c _ (mem_uc main_arg3 (by decide))).trans (W7_main_arg3 m ρ c),
     (hr c _ (mem_uc main_arg4 (by decide))).trans (W7_main_arg4 m ρ c),
     (hr c _ (mem_uc main_arg5 (by decide))).trans (W7_main_arg5 m ρ c),
     (hr c _ (mem_uc main_arg6 (by decide))).trans (W7_main_arg6 m ρ c)⟩)
    (run_buffers m ρ)

end Cert.Voxel.Ker

end
-- ==== Proof.lean ====
/- The certificate: every claim of Defs.lean, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.PreFacts
public import proofs.«01_k».proof.Proof.RefRun
public import proofs.«01_k».proof.Proof.KerRun
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The kernel, at machine floats, terminates without fault, its arguments unchanged and every counter at zero. -/
theorem frame_kernel : Cert.quiescent_Kernel := fun m ρ _ => Cert.Kernel.Gen.frame m ρ

/-- The same of the kernel read at exact arithmetic. -/
theorem frame_ideal : Cert.quiescent_KernelIdeal := fun m ρ _ => Cert.KernelIdeal.Gen.frame m ρ

/-- The reference at exact arithmetic terminates without fault, its arguments unchanged; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The data the reference is run on are the kernel's, when the two memories agree on the arguments. -/
theorem data_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (T : Cert.Voxel.Ker.Ok m c) :
    Cert.Voxel.Ref.Ok (launchContents m' c) ∧ Cert.Voxel.Ref.data (launchContents m' c) = Cert.Voxel.Ker.data m c := by
  have e0 : Cert.Voxel.Ref.a0 (launchContents m' c) = _ := h0
  have e1 : Cert.Voxel.Ref.a1 (launchContents m' c) = _ := h1
  have e2 : Cert.Voxel.Ref.a2 (launchContents m' c) = _ := h2
  have e3 : Cert.Voxel.Ref.a3 (launchContents m' c) = _ := h3
  have e4 : Cert.Voxel.Ref.a4 (launchContents m' c) = _ := h4
  have e5 : Cert.Voxel.Ref.a5 (launchContents m' c) = _ := h5
  have e6 : Cert.Voxel.Ref.a6 (launchContents m' c) = _ := h6
  unfold Cert.Voxel.Ref.Ok Cert.Voxel.Ref.data
  rw [e0, e1, e2, e3, e4, e5, e6]
  exact ⟨T, rfl⟩

/-- At exact arithmetic, on arguments the precondition holds of, the kernel and the reference end with the same voxel grid:
    each bin's total at its first pixel, zero everywhere else. -/
theorem values [hPre_unit_events : Cert.Pre_unit_events.Facts] : Cert.algebraic_KernelIdeal_ReferenceIdeal_pre_unit_events := by
  intro m g m' g' hp ha
  have T : ∀ c, Cert.Voxel.Ker.Ok m c := fun c => Cert.Voxel.tame_of_pre _ _ _ _ _ _ _ (hp c)
  have E : ∀ c, Cert.Voxel.Ref.Ok (launchContents m' c) ∧ Cert.Voxel.Ref.data (launchContents m' c) = Cert.Voxel.Ker.data m c := fun c =>
    data_eq (ha c).1 (ha c).2.1 (ha c).2.2.1 (ha c).2.2.2.1 (ha c).2.2.2.2.1 (ha c).2.2.2.2.2.1 (ha c).2.2.2.2.2.2 (T c)
  refine ⟨fun c => fun y => (Cert.Voxel.Ker.data m c).out (y 1) (y 2) (y 3), Cert.Voxel.Ker.run_value m g T, ?_⟩
  refine (θ_run Cert.ReferenceIdeal.defs _ _).mono (fun r hr c => ⟨(hr c).1.trans ?_, (hr c).2⟩)
    (Cert.Voxel.Ref.run_value m' g' fun c => (E c).1)
  rw [(E c).2]
  rfl

/-- Every claim of the certificate. -/
theorem claim : Cert.Claim :=
  ⟨Cert.Kernel.Gen.facts, Cert.KernelIdeal.Gen.facts, Cert.ReferenceIdeal.Gen.facts, Cert.Voxel.preFacts,
    frame_kernel, frame_ideal, fun m ρ _ => Cert.KernelIdeal.Gen.frame m ρ, frame_reference,
    fun m ρ _ => frame_reference m ρ trivial, trivial, values (hPre_unit_events := Cert.Voxel.preFacts)⟩

end Cert.Proof

end
